-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_PostEven (m : (ℓ : Loc Cert.PostEven.nD Cert.PostEven.τ Cert.PostEven.sig) → Buf (Elt Bits) ℓ) : Prop :=
  True

def Pre_PostEvenIdeal (m : (ℓ : Loc Cert.PostEvenIdeal.nD Cert.PostEvenIdeal.τ Cert.PostEvenIdeal.sig) → Buf (Elt Ideal) ℓ) : Prop :=
  True

def Pre_RefEvenIdeal (m : (ℓ : Loc Cert.RefEvenIdeal.nD Cert.RefEvenIdeal.τ Cert.RefEvenIdeal.sig) → Buf (Elt Ideal) ℓ) : Prop :=
  True

def Pre_PostOdd (m : (ℓ : Loc Cert.PostOdd.nD Cert.PostOdd.τ Cert.PostOdd.sig) → Buf (Elt Bits) ℓ) : Prop :=
  True

def Pre_PostOddIdeal (m : (ℓ : Loc Cert.PostOddIdeal.nD Cert.PostOddIdeal.τ Cert.PostOddIdeal.sig) → Buf (Elt Ideal) ℓ) : Prop :=
  True

def Pre_RefOddIdeal (m : (ℓ : Loc Cert.RefOddIdeal.nD Cert.RefOddIdeal.τ Cert.RefOddIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_PostEven [hPostEven : Cert.PostEven.Facts] : Prop :=
  ∀ (m : (ℓ : Loc Cert.PostEven.nD Cert.PostEven.τ Cert.PostEven.sig) → Buf (Elt Bits) ℓ) (g : Dev Cert.PostEven.nD → PrngReg), Pre_PostEven m →
    θ_run (Cert.PostEven.defs (F := Bits)) (onTc (τ := Cert.PostEven.τ) (Cert.PostEven.main (F := Bits))) ⟨m, fun _ => 0, g⟩ (fun r => (∀ c : Dev Cert.PostEven.nD,
      r.2.mem ((c.tc : Thread Cert.PostEven.nD Cert.PostEven.τ).loc Cert.PostEven.main_arg0) = m ((c.tc : Thread Cert.PostEven.nD Cert.PostEven.τ).loc Cert.PostEven.main_arg0)
      ∧ r.2.mem ((c.tc : Thread Cert.PostEven.nD Cert.PostEven.τ).loc Cert.PostEven.main_arg1) = m ((c.tc : Thread Cert.PostEven.nD Cert.PostEven.τ).loc Cert.PostEven.main_arg1)
      ∧ r.2.mem ((c.tc : Thread Cert.PostEven.nD Cert.PostEven.τ).loc Cert.PostEven.main_arg2) = m ((c.tc : Thread Cert.PostEven.nD Cert.PostEven.τ).loc Cert.PostEven.main_arg2)
      ∧ r.2.mem ((c.tc : Thread Cert.PostEven.nD Cert.PostEven.τ).loc Cert.PostEven.main_arg3) = m ((c.tc : Thread Cert.PostEven.nD Cert.PostEven.τ).loc Cert.PostEven.main_arg3)
      ∧ r.2.mem ((c.tc : Thread Cert.PostEven.nD Cert.PostEven.τ).loc Cert.PostEven.main_arg4) = m ((c.tc : Thread Cert.PostEven.nD Cert.PostEven.τ).loc Cert.PostEven.main_arg4)
      ∧ r.2.mem ((c.tc : Thread Cert.PostEven.nD Cert.PostEven.τ).loc Cert.PostEven.main_arg5) = m ((c.tc : Thread Cert.PostEven.nD Cert.PostEven.τ).loc Cert.PostEven.main_arg5)
      ∧ r.2.mem ((c.tc : Thread Cert.PostEven.nD Cert.PostEven.τ).loc Cert.PostEven.main_arg6) = m ((c.tc : Thread Cert.PostEven.nD Cert.PostEven.τ).loc Cert.PostEven.main_arg6)
      ∧ r.2.mem ((c.tc : Thread Cert.PostEven.nD Cert.PostEven.τ).loc Cert.PostEven.main_arg7) = m ((c.tc : Thread Cert.PostEven.nD Cert.PostEven.τ).loc Cert.PostEven.main_arg7)
      ∧ r.2.mem ((c.tc : Thread Cert.PostEven.nD Cert.PostEven.τ).loc Cert.PostEven.main_arg8) = m ((c.tc : Thread Cert.PostEven.nD Cert.PostEven.τ).loc Cert.PostEven.main_arg8)
      ∧ r.2.mem ((c.tc : Thread Cert.PostEven.nD Cert.PostEven.τ).loc Cert.PostEven.main_arg9) = m ((c.tc : Thread Cert.PostEven.nD Cert.PostEven.τ).loc Cert.PostEven.main_arg9)
      ∧ r.2.mem ((c.tc : Thread Cert.PostEven.nD Cert.PostEven.τ).loc Cert.PostEven.main_arg10) = m ((c.tc : Thread Cert.PostEven.nD Cert.PostEven.τ).loc Cert.PostEven.main_arg10)
      ∧ r.2.mem ((c.tc : Thread Cert.PostEven.nD Cert.PostEven.τ).loc Cert.PostEven.main_arg11) = m ((c.tc : Thread Cert.PostEven.nD Cert.PostEven.τ).loc Cert.PostEven.main_arg11)
      ∧ r.2.mem ((c.tc : Thread Cert.PostEven.nD Cert.PostEven.τ).loc Cert.PostEven.main_arg12) = m ((c.tc : Thread Cert.PostEven.nD Cert.PostEven.τ).loc Cert.PostEven.main_arg12))
      ∧ r.2.sem = fun _ => 0)

def quiescent_PostEvenIdeal [hPostEvenIdeal : Cert.PostEvenIdeal.Facts] : Prop :=
  ∀ (m : (ℓ : Loc Cert.PostEvenIdeal.nD Cert.PostEvenIdeal.τ Cert.PostEvenIdeal.sig) → Buf (Elt Ideal) ℓ) (g : Dev Cert.PostEvenIdeal.nD → PrngReg), Pre_PostEvenIdeal m →
    θ_run (Cert.PostEvenIdeal.defs (F := Ideal)) (onTc (τ := Cert.PostEvenIdeal.τ) (Cert.PostEvenIdeal.main (F := Ideal))) ⟨m, fun _ => 0, g⟩ (fun r => (∀ c : Dev Cert.PostEvenIdeal.nD,
      r.2.mem ((c.tc : Thread Cert.PostEvenIdeal.nD Cert.PostEvenIdeal.τ).loc Cert.PostEvenIdeal.main_arg0) = m ((c.tc : Thread Cert.PostEvenIdeal.nD Cert.PostEvenIdeal.τ).loc Cert.PostEvenIdeal.main_arg0)
      ∧ r.2.mem ((c.tc : Thread Cert.PostEvenIdeal.nD Cert.PostEvenIdeal.τ).loc Cert.PostEvenIdeal.main_arg1) = m ((c.tc : Thread Cert.PostEvenIdeal.nD Cert.PostEvenIdeal.τ).loc Cert.PostEvenIdeal.main_arg1)
      ∧ r.2.mem ((c.tc : Thread Cert.PostEvenIdeal.nD Cert.PostEvenIdeal.τ).loc Cert.PostEvenIdeal.main_arg2) = m ((c.tc : Thread Cert.PostEvenIdeal.nD Cert.PostEvenIdeal.τ).loc Cert.PostEvenIdeal.main_arg2)
      ∧ r.2.mem ((c.tc : Thread Cert.PostEvenIdeal.nD Cert.PostEvenIdeal.τ).loc Cert.PostEvenIdeal.main_arg3) = m ((c.tc : Thread Cert.PostEvenIdeal.nD Cert.PostEvenIdeal.τ).loc Cert.PostEvenIdeal.main_arg3)
      ∧ r.2.mem ((c.tc : Thread Cert.PostEvenIdeal.nD Cert.PostEvenIdeal.τ).loc Cert.PostEvenIdeal.main_arg4) = m ((c.tc : Thread Cert.PostEvenIdeal.nD Cert.PostEvenIdeal.τ).loc Cert.PostEvenIdeal.main_arg4)
      ∧ r.2.mem ((c.tc : Thread Cert.PostEvenIdeal.nD Cert.PostEvenIdeal.τ).loc Cert.PostEvenIdeal.main_arg5) = m ((c.tc : Thread Cert.PostEvenIdeal.nD Cert.PostEvenIdeal.τ).loc Cert.PostEvenIdeal.main_arg5)
      ∧ r.2.mem ((c.tc : Thread Cert.PostEvenIdeal.nD Cert.PostEvenIdeal.τ).loc Cert.PostEvenIdeal.main_arg6) = m ((c.tc : Thread Cert.PostEvenIdeal.nD Cert.PostEvenIdeal.τ).loc Cert.PostEvenIdeal.main_arg6)
      ∧ r.2.mem ((c.tc : Thread Cert.PostEvenIdeal.nD Cert.PostEvenIdeal.τ).loc Cert.PostEvenIdeal.main_arg7) = m ((c.tc : Thread Cert.PostEvenIdeal.nD Cert.PostEvenIdeal.τ).loc Cert.PostEvenIdeal.main_arg7)
      ∧ r.2.mem ((c.tc : Thread Cert.PostEvenIdeal.nD Cert.PostEvenIdeal.τ).loc Cert.PostEvenIdeal.main_arg8) = m ((c.tc : Thread Cert.PostEvenIdeal.nD Cert.PostEvenIdeal.τ).loc Cert.PostEvenIdeal.main_arg8)
      ∧ r.2.mem ((c.tc : Thread Cert.PostEvenIdeal.nD Cert.PostEvenIdeal.τ).loc Cert.PostEvenIdeal.main_arg9) = m ((c.tc : Thread Cert.PostEvenIdeal.nD Cert.PostEvenIdeal.τ).loc Cert.PostEvenIdeal.main_arg9)
      ∧ r.2.mem ((c.tc : Thread Cert.PostEvenIdeal.nD Cert.PostEvenIdeal.τ).loc Cert.PostEvenIdeal.main_arg10) = m ((c.tc : Thread Cert.PostEvenIdeal.nD Cert.PostEvenIdeal.τ).loc Cert.PostEvenIdeal.main_arg10)
      ∧ r.2.mem ((c.tc : Thread Cert.PostEvenIdeal.nD Cert.PostEvenIdeal.τ).loc Cert.PostEvenIdeal.main_arg11) = m ((c.tc : Thread Cert.PostEvenIdeal.nD Cert.PostEvenIdeal.τ).loc Cert.PostEvenIdeal.main_arg11)
      ∧ r.2.mem ((c.tc : Thread Cert.PostEvenIdeal.nD Cert.PostEvenIdeal.τ).loc Cert.PostEvenIdeal.main_arg12) = m ((c.tc : Thread Cert.PostEvenIdeal.nD Cert.PostEvenIdeal.τ).loc Cert.PostEvenIdeal.main_arg12))
      ∧ r.2.sem = fun _ => 0)

def quiescent_RefEvenIdeal [hRefEvenIdeal : Cert.RefEvenIdeal.Facts] : Prop :=
  ∀ (m : (ℓ : Loc Cert.RefEvenIdeal.nD Cert.RefEvenIdeal.τ Cert.RefEvenIdeal.sig) → Buf (Elt Ideal) ℓ) (g : Dev Cert.RefEvenIdeal.nD → PrngReg), Pre_RefEvenIdeal m →
    θ_run (Cert.RefEvenIdeal.defs (F := Ideal)) (onTc (τ := Cert.RefEvenIdeal.τ) (Cert.RefEvenIdeal.main (F := Ideal))) ⟨m, fun _ => 0, g⟩ (fun r => (∀ c : Dev Cert.RefEvenIdeal.nD,
      r.2.mem ((c.tc : Thread Cert.RefEvenIdeal.nD Cert.RefEvenIdeal.τ).loc Cert.RefEvenIdeal.main_arg0) = m ((c.tc : Thread Cert.RefEvenIdeal.nD Cert.RefEvenIdeal.τ).loc Cert.RefEvenIdeal.main_arg0)
      ∧ r.2.mem ((c.tc : Thread Cert.RefEvenIdeal.nD Cert.RefEvenIdeal.τ).loc Cert.RefEvenIdeal.main_arg1) = m ((c.tc : Thread Cert.RefEvenIdeal.nD Cert.RefEvenIdeal.τ).loc Cert.RefEvenIdeal.main_arg1)
      ∧ r.2.mem ((c.tc : Thread Cert.RefEvenIdeal.nD Cert.RefEvenIdeal.τ).loc Cert.RefEvenIdeal.main_arg2) = m ((c.tc : Thread Cert.RefEvenIdeal.nD Cert.RefEvenIdeal.τ).loc Cert.RefEvenIdeal.main_arg2)
      ∧ r.2.mem ((c.tc : Thread Cert.RefEvenIdeal.nD Cert.RefEvenIdeal.τ).loc Cert.RefEvenIdeal.main_arg3) = m ((c.tc : Thread Cert.RefEvenIdeal.nD Cert.RefEvenIdeal.τ).loc Cert.RefEvenIdeal.main_arg3)
      ∧ r.2.mem ((c.tc : Thread Cert.RefEvenIdeal.nD Cert.RefEvenIdeal.τ).loc Cert.RefEvenIdeal.main_arg4) = m ((c.tc : Thread Cert.RefEvenIdeal.nD Cert.RefEvenIdeal.τ).loc Cert.RefEvenIdeal.main_arg4)
      ∧ r.2.mem ((c.tc : Thread Cert.RefEvenIdeal.nD Cert.RefEvenIdeal.τ).loc Cert.RefEvenIdeal.main_arg5) = m ((c.tc : Thread Cert.RefEvenIdeal.nD Cert.RefEvenIdeal.τ).loc Cert.RefEvenIdeal.main_arg5)
      ∧ r.2.mem ((c.tc : Thread Cert.RefEvenIdeal.nD Cert.RefEvenIdeal.τ).loc Cert.RefEvenIdeal.main_arg6) = m ((c.tc : Thread Cert.RefEvenIdeal.nD Cert.RefEvenIdeal.τ).loc Cert.RefEvenIdeal.main_arg6)
      ∧ r.2.mem ((c.tc : Thread Cert.RefEvenIdeal.nD Cert.RefEvenIdeal.τ).loc Cert.RefEvenIdeal.main_arg7) = m ((c.tc : Thread Cert.RefEvenIdeal.nD Cert.RefEvenIdeal.τ).loc Cert.RefEvenIdeal.main_arg7)
      ∧ r.2.mem ((c.tc : Thread Cert.RefEvenIdeal.nD Cert.RefEvenIdeal.τ).loc Cert.RefEvenIdeal.main_arg8) = m ((c.tc : Thread Cert.RefEvenIdeal.nD Cert.RefEvenIdeal.τ).loc Cert.RefEvenIdeal.main_arg8)
      ∧ r.2.mem ((c.tc : Thread Cert.RefEvenIdeal.nD Cert.RefEvenIdeal.τ).loc Cert.RefEvenIdeal.main_arg9) = m ((c.tc : Thread Cert.RefEvenIdeal.nD Cert.RefEvenIdeal.τ).loc Cert.RefEvenIdeal.main_arg9)
      ∧ r.2.mem ((c.tc : Thread Cert.RefEvenIdeal.nD Cert.RefEvenIdeal.τ).loc Cert.RefEvenIdeal.main_arg10) = m ((c.tc : Thread Cert.RefEvenIdeal.nD Cert.RefEvenIdeal.τ).loc Cert.RefEvenIdeal.main_arg10)
      ∧ r.2.mem ((c.tc : Thread Cert.RefEvenIdeal.nD Cert.RefEvenIdeal.τ).loc Cert.RefEvenIdeal.main_arg11) = m ((c.tc : Thread Cert.RefEvenIdeal.nD Cert.RefEvenIdeal.τ).loc Cert.RefEvenIdeal.main_arg11)
      ∧ r.2.mem ((c.tc : Thread Cert.RefEvenIdeal.nD Cert.RefEvenIdeal.τ).loc Cert.RefEvenIdeal.main_arg12) = m ((c.tc : Thread Cert.RefEvenIdeal.nD Cert.RefEvenIdeal.τ).loc Cert.RefEvenIdeal.main_arg12))
      ∧ r.2.sem = fun _ => 0)

def quiescent_PostOdd [hPostOdd : Cert.PostOdd.Facts] : Prop :=
  ∀ (m : (ℓ : Loc Cert.PostOdd.nD Cert.PostOdd.τ Cert.PostOdd.sig) → Buf (Elt Bits) ℓ) (g : Dev Cert.PostOdd.nD → PrngReg), Pre_PostOdd m →
    θ_run (Cert.PostOdd.defs (F := Bits)) (onTc (τ := Cert.PostOdd.τ) (Cert.PostOdd.main (F := Bits))) ⟨m, fun _ => 0, g⟩ (fun r => (∀ c : Dev Cert.PostOdd.nD,
      r.2.mem ((c.tc : Thread Cert.PostOdd.nD Cert.PostOdd.τ).loc Cert.PostOdd.main_arg0) = m ((c.tc : Thread Cert.PostOdd.nD Cert.PostOdd.τ).loc Cert.PostOdd.main_arg0)
      ∧ r.2.mem ((c.tc : Thread Cert.PostOdd.nD Cert.PostOdd.τ).loc Cert.PostOdd.main_arg1) = m ((c.tc : Thread Cert.PostOdd.nD Cert.PostOdd.τ).loc Cert.PostOdd.main_arg1)
      ∧ r.2.mem ((c.tc : Thread Cert.PostOdd.nD Cert.PostOdd.τ).loc Cert.PostOdd.main_arg2) = m ((c.tc : Thread Cert.PostOdd.nD Cert.PostOdd.τ).loc Cert.PostOdd.main_arg2)
      ∧ r.2.mem ((c.tc : Thread Cert.PostOdd.nD Cert.PostOdd.τ).loc Cert.PostOdd.main_arg3) = m ((c.tc : Thread Cert.PostOdd.nD Cert.PostOdd.τ).loc Cert.PostOdd.main_arg3)
      ∧ r.2.mem ((c.tc : Thread Cert.PostOdd.nD Cert.PostOdd.τ).loc Cert.PostOdd.main_arg4) = m ((c.tc : Thread Cert.PostOdd.nD Cert.PostOdd.τ).loc Cert.PostOdd.main_arg4)
      ∧ r.2.mem ((c.tc : Thread Cert.PostOdd.nD Cert.PostOdd.τ).loc Cert.PostOdd.main_arg5) = m ((c.tc : Thread Cert.PostOdd.nD Cert.PostOdd.τ).loc Cert.PostOdd.main_arg5)
      ∧ r.2.mem ((c.tc : Thread Cert.PostOdd.nD Cert.PostOdd.τ).loc Cert.PostOdd.main_arg6) = m ((c.tc : Thread Cert.PostOdd.nD Cert.PostOdd.τ).loc Cert.PostOdd.main_arg6)
      ∧ r.2.mem ((c.tc : Thread Cert.PostOdd.nD Cert.PostOdd.τ).loc Cert.PostOdd.main_arg7) = m ((c.tc : Thread Cert.PostOdd.nD Cert.PostOdd.τ).loc Cert.PostOdd.main_arg7)
      ∧ r.2.mem ((c.tc : Thread Cert.PostOdd.nD Cert.PostOdd.τ).loc Cert.PostOdd.main_arg8) = m ((c.tc : Thread Cert.PostOdd.nD Cert.PostOdd.τ).loc Cert.PostOdd.main_arg8)
      ∧ r.2.mem ((c.tc : Thread Cert.PostOdd.nD Cert.PostOdd.τ).loc Cert.PostOdd.main_arg9) = m ((c.tc : Thread Cert.PostOdd.nD Cert.PostOdd.τ).loc Cert.PostOdd.main_arg9)
      ∧ r.2.mem ((c.tc : Thread Cert.PostOdd.nD Cert.PostOdd.τ).loc Cert.PostOdd.main_arg10) = m ((c.tc : Thread Cert.PostOdd.nD Cert.PostOdd.τ).loc Cert.PostOdd.main_arg10)
      ∧ r.2.mem ((c.tc : Thread Cert.PostOdd.nD Cert.PostOdd.τ).loc Cert.PostOdd.main_arg11) = m ((c.tc : Thread Cert.PostOdd.nD Cert.PostOdd.τ).loc Cert.PostOdd.main_arg11)
      ∧ r.2.mem ((c.tc : Thread Cert.PostOdd.nD Cert.PostOdd.τ).loc Cert.PostOdd.main_arg12) = m ((c.tc : Thread Cert.PostOdd.nD Cert.PostOdd.τ).loc Cert.PostOdd.main_arg12)
      ∧ r.2.mem ((c.tc : Thread Cert.PostOdd.nD Cert.PostOdd.τ).loc Cert.PostOdd.main_arg13) = m ((c.tc : Thread Cert.PostOdd.nD Cert.PostOdd.τ).loc Cert.PostOdd.main_arg13))
      ∧ r.2.sem = fun _ => 0)

def quiescent_PostOddIdeal [hPostOddIdeal : Cert.PostOddIdeal.Facts] : Prop :=
  ∀ (m : (ℓ : Loc Cert.PostOddIdeal.nD Cert.PostOddIdeal.τ Cert.PostOddIdeal.sig) → Buf (Elt Ideal) ℓ) (g : Dev Cert.PostOddIdeal.nD → PrngReg), Pre_PostOddIdeal m →
    θ_run (Cert.PostOddIdeal.defs (F := Ideal)) (onTc (τ := Cert.PostOddIdeal.τ) (Cert.PostOddIdeal.main (F := Ideal))) ⟨m, fun _ => 0, g⟩ (fun r => (∀ c : Dev Cert.PostOddIdeal.nD,
      r.2.mem ((c.tc : Thread Cert.PostOddIdeal.nD Cert.PostOddIdeal.τ).loc Cert.PostOddIdeal.main_arg0) = m ((c.tc : Thread Cert.PostOddIdeal.nD Cert.PostOddIdeal.τ).loc Cert.PostOddIdeal.main_arg0)
      ∧ r.2.mem ((c.tc : Thread Cert.PostOddIdeal.nD Cert.PostOddIdeal.τ).loc Cert.PostOddIdeal.main_arg1) = m ((c.tc : Thread Cert.PostOddIdeal.nD Cert.PostOddIdeal.τ).loc Cert.PostOddIdeal.main_arg1)
      ∧ r.2.mem ((c.tc : Thread Cert.PostOddIdeal.nD Cert.PostOddIdeal.τ).loc Cert.PostOddIdeal.main_arg2) = m ((c.tc : Thread Cert.PostOddIdeal.nD Cert.PostOddIdeal.τ).loc Cert.PostOddIdeal.main_arg2)
      ∧ r.2.mem ((c.tc : Thread Cert.PostOddIdeal.nD Cert.PostOddIdeal.τ).loc Cert.PostOddIdeal.main_arg3) = m ((c.tc : Thread Cert.PostOddIdeal.nD Cert.PostOddIdeal.τ).loc Cert.PostOddIdeal.main_arg3)
      ∧ r.2.mem ((c.tc : Thread Cert.PostOddIdeal.nD Cert.PostOddIdeal.τ).loc Cert.PostOddIdeal.main_arg4) = m ((c.tc : Thread Cert.PostOddIdeal.nD Cert.PostOddIdeal.τ).loc Cert.PostOddIdeal.main_arg4)
      ∧ r.2.mem ((c.tc : Thread Cert.PostOddIdeal.nD Cert.PostOddIdeal.τ).loc Cert.PostOddIdeal.main_arg5) = m ((c.tc : Thread Cert.PostOddIdeal.nD Cert.PostOddIdeal.τ).loc Cert.PostOddIdeal.main_arg5)
      ∧ r.2.mem ((c.tc : Thread Cert.PostOddIdeal.nD Cert.PostOddIdeal.τ).loc Cert.PostOddIdeal.main_arg6) = m ((c.tc : Thread Cert.PostOddIdeal.nD Cert.PostOddIdeal.τ).loc Cert.PostOddIdeal.main_arg6)
      ∧ r.2.mem ((c.tc : Thread Cert.PostOddIdeal.nD Cert.PostOddIdeal.τ).loc Cert.PostOddIdeal.main_arg7) = m ((c.tc : Thread Cert.PostOddIdeal.nD Cert.PostOddIdeal.τ).loc Cert.PostOddIdeal.main_arg7)
      ∧ r.2.mem ((c.tc : Thread Cert.PostOddIdeal.nD Cert.PostOddIdeal.τ).loc Cert.PostOddIdeal.main_arg8) = m ((c.tc : Thread Cert.PostOddIdeal.nD Cert.PostOddIdeal.τ).loc Cert.PostOddIdeal.main_arg8)
      ∧ r.2.mem ((c.tc : Thread Cert.PostOddIdeal.nD Cert.PostOddIdeal.τ).loc Cert.PostOddIdeal.main_arg9) = m ((c.tc : Thread Cert.PostOddIdeal.nD Cert.PostOddIdeal.τ).loc Cert.PostOddIdeal.main_arg9)
      ∧ r.2.mem ((c.tc : Thread Cert.PostOddIdeal.nD Cert.PostOddIdeal.τ).loc Cert.PostOddIdeal.main_arg10) = m ((c.tc : Thread Cert.PostOddIdeal.nD Cert.PostOddIdeal.τ).loc Cert.PostOddIdeal.main_arg10)
      ∧ r.2.mem ((c.tc : Thread Cert.PostOddIdeal.nD Cert.PostOddIdeal.τ).loc Cert.PostOddIdeal.main_arg11) = m ((c.tc : Thread Cert.PostOddIdeal.nD Cert.PostOddIdeal.τ).loc Cert.PostOddIdeal.main_arg11)
      ∧ r.2.mem ((c.tc : Thread Cert.PostOddIdeal.nD Cert.PostOddIdeal.τ).loc Cert.PostOddIdeal.main_arg12) = m ((c.tc : Thread Cert.PostOddIdeal.nD Cert.PostOddIdeal.τ).loc Cert.PostOddIdeal.main_arg12)
      ∧ r.2.mem ((c.tc : Thread Cert.PostOddIdeal.nD Cert.PostOddIdeal.τ).loc Cert.PostOddIdeal.main_arg13) = m ((c.tc : Thread Cert.PostOddIdeal.nD Cert.PostOddIdeal.τ).loc Cert.PostOddIdeal.main_arg13))
      ∧ r.2.sem = fun _ => 0)

def quiescent_RefOddIdeal [hRefOddIdeal : Cert.RefOddIdeal.Facts] : Prop :=
  ∀ (m : (ℓ : Loc Cert.RefOddIdeal.nD Cert.RefOddIdeal.τ Cert.RefOddIdeal.sig) → Buf (Elt Ideal) ℓ) (g : Dev Cert.RefOddIdeal.nD → PrngReg), Pre_RefOddIdeal m →
    θ_run (Cert.RefOddIdeal.defs (F := Ideal)) (onTc (τ := Cert.RefOddIdeal.τ) (Cert.RefOddIdeal.main (F := Ideal))) ⟨m, fun _ => 0, g⟩ (fun r => (∀ c : Dev Cert.RefOddIdeal.nD,
      r.2.mem ((c.tc : Thread Cert.RefOddIdeal.nD Cert.RefOddIdeal.τ).loc Cert.RefOddIdeal.main_arg0) = m ((c.tc : Thread Cert.RefOddIdeal.nD Cert.RefOddIdeal.τ).loc Cert.RefOddIdeal.main_arg0)
      ∧ r.2.mem ((c.tc : Thread Cert.RefOddIdeal.nD Cert.RefOddIdeal.τ).loc Cert.RefOddIdeal.main_arg1) = m ((c.tc : Thread Cert.RefOddIdeal.nD Cert.RefOddIdeal.τ).loc Cert.RefOddIdeal.main_arg1)
      ∧ r.2.mem ((c.tc : Thread Cert.RefOddIdeal.nD Cert.RefOddIdeal.τ).loc Cert.RefOddIdeal.main_arg2) = m ((c.tc : Thread Cert.RefOddIdeal.nD Cert.RefOddIdeal.τ).loc Cert.RefOddIdeal.main_arg2)
      ∧ r.2.mem ((c.tc : Thread Cert.RefOddIdeal.nD Cert.RefOddIdeal.τ).loc Cert.RefOddIdeal.main_arg3) = m ((c.tc : Thread Cert.RefOddIdeal.nD Cert.RefOddIdeal.τ).loc Cert.RefOddIdeal.main_arg3)
      ∧ r.2.mem ((c.tc : Thread Cert.RefOddIdeal.nD Cert.RefOddIdeal.τ).loc Cert.RefOddIdeal.main_arg4) = m ((c.tc : Thread Cert.RefOddIdeal.nD Cert.RefOddIdeal.τ).loc Cert.RefOddIdeal.main_arg4)
      ∧ r.2.mem ((c.tc : Thread Cert.RefOddIdeal.nD Cert.RefOddIdeal.τ).loc Cert.RefOddIdeal.main_arg5) = m ((c.tc : Thread Cert.RefOddIdeal.nD Cert.RefOddIdeal.τ).loc Cert.RefOddIdeal.main_arg5)
      ∧ r.2.mem ((c.tc : Thread Cert.RefOddIdeal.nD Cert.RefOddIdeal.τ).loc Cert.RefOddIdeal.main_arg6) = m ((c.tc : Thread Cert.RefOddIdeal.nD Cert.RefOddIdeal.τ).loc Cert.RefOddIdeal.main_arg6)
      ∧ r.2.mem ((c.tc : Thread Cert.RefOddIdeal.nD Cert.RefOddIdeal.τ).loc Cert.RefOddIdeal.main_arg7) = m ((c.tc : Thread Cert.RefOddIdeal.nD Cert.RefOddIdeal.τ).loc Cert.RefOddIdeal.main_arg7)
      ∧ r.2.mem ((c.tc : Thread Cert.RefOddIdeal.nD Cert.RefOddIdeal.τ).loc Cert.RefOddIdeal.main_arg8) = m ((c.tc : Thread Cert.RefOddIdeal.nD Cert.RefOddIdeal.τ).loc Cert.RefOddIdeal.main_arg8)
      ∧ r.2.mem ((c.tc : Thread Cert.RefOddIdeal.nD Cert.RefOddIdeal.τ).loc Cert.RefOddIdeal.main_arg9) = m ((c.tc : Thread Cert.RefOddIdeal.nD Cert.RefOddIdeal.τ).loc Cert.RefOddIdeal.main_arg9)
      ∧ r.2.mem ((c.tc : Thread Cert.RefOddIdeal.nD Cert.RefOddIdeal.τ).loc Cert.RefOddIdeal.main_arg10) = m ((c.tc : Thread Cert.RefOddIdeal.nD Cert.RefOddIdeal.τ).loc Cert.RefOddIdeal.main_arg10)
      ∧ r.2.mem ((c.tc : Thread Cert.RefOddIdeal.nD Cert.RefOddIdeal.τ).loc Cert.RefOddIdeal.main_arg11) = m ((c.tc : Thread Cert.RefOddIdeal.nD Cert.RefOddIdeal.τ).loc Cert.RefOddIdeal.main_arg11)
      ∧ r.2.mem ((c.tc : Thread Cert.RefOddIdeal.nD Cert.RefOddIdeal.τ).loc Cert.RefOddIdeal.main_arg12) = m ((c.tc : Thread Cert.RefOddIdeal.nD Cert.RefOddIdeal.τ).loc Cert.RefOddIdeal.main_arg12)
      ∧ r.2.mem ((c.tc : Thread Cert.RefOddIdeal.nD Cert.RefOddIdeal.τ).loc Cert.RefOddIdeal.main_arg13) = m ((c.tc : Thread Cert.RefOddIdeal.nD Cert.RefOddIdeal.τ).loc Cert.RefOddIdeal.main_arg13))
      ∧ r.2.sem = fun _ => 0)

def preserves_Kernel_KernelIdeal : Prop :=
  IdealRules.named_const.Statement Cert.KernelIdeal.κ "scale" .f32 0x3E38AA3B#32 (((1 / 8) * (Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_PostEven_PostEvenIdeal : Prop :=
  True

def algebraic_PostEvenIdeal_RefEvenIdeal [hPostEvenIdeal : Cert.PostEvenIdeal.Facts] [hRefEvenIdeal : Cert.RefEvenIdeal.Facts] : Prop :=
  ∀ (m : (ℓ : Loc Cert.PostEvenIdeal.nD Cert.PostEvenIdeal.τ Cert.PostEvenIdeal.sig) → Buf (Elt Ideal) ℓ) (g : Dev Cert.PostEvenIdeal.nD → PrngReg)
    (m' : (ℓ : Loc Cert.RefEvenIdeal.nD Cert.RefEvenIdeal.τ Cert.RefEvenIdeal.sig) → Buf (Elt Ideal) ℓ) (g' : Dev Cert.RefEvenIdeal.nD → PrngReg), Pre_PostEvenIdeal m →
    (∀ c : Dev Cert.PostEvenIdeal.nD,
      m' ((c.tc : Thread Cert.RefEvenIdeal.nD Cert.RefEvenIdeal.τ).loc Cert.RefEvenIdeal.main_arg0) = m ((c.tc : Thread Cert.PostEvenIdeal.nD Cert.PostEvenIdeal.τ).loc Cert.PostEvenIdeal.main_arg0)
      ∧ m' ((c.tc : Thread Cert.RefEvenIdeal.nD Cert.RefEvenIdeal.τ).loc Cert.RefEvenIdeal.main_arg1) = m ((c.tc : Thread Cert.PostEvenIdeal.nD Cert.PostEvenIdeal.τ).loc Cert.PostEvenIdeal.main_arg1)
      ∧ m' ((c.tc : Thread Cert.RefEvenIdeal.nD Cert.RefEvenIdeal.τ).loc Cert.RefEvenIdeal.main_arg2) = m ((c.tc : Thread Cert.PostEvenIdeal.nD Cert.PostEvenIdeal.τ).loc Cert.PostEvenIdeal.main_arg2)
      ∧ m' ((c.tc : Thread Cert.RefEvenIdeal.nD Cert.RefEvenIdeal.τ).loc Cert.RefEvenIdeal.main_arg3) = m ((c.tc : Thread Cert.PostEvenIdeal.nD Cert.PostEvenIdeal.τ).loc Cert.PostEvenIdeal.main_arg3)
      ∧ m' ((c.tc : Thread Cert.RefEvenIdeal.nD Cert.RefEvenIdeal.τ).loc Cert.RefEvenIdeal.main_arg4) = m ((c.tc : Thread Cert.PostEvenIdeal.nD Cert.PostEvenIdeal.τ).loc Cert.PostEvenIdeal.main_arg4)
      ∧ m' ((c.tc : Thread Cert.RefEvenIdeal.nD Cert.RefEvenIdeal.τ).loc Cert.RefEvenIdeal.main_arg5) = m ((c.tc : Thread Cert.PostEvenIdeal.nD Cert.PostEvenIdeal.τ).loc Cert.PostEvenIdeal.main_arg5)
      ∧ m' ((c.tc : Thread Cert.RefEvenIdeal.nD Cert.RefEvenIdeal.τ).loc Cert.RefEvenIdeal.main_arg6) = m ((c.tc : Thread Cert.PostEvenIdeal.nD Cert.PostEvenIdeal.τ).loc Cert.PostEvenIdeal.main_arg6)
      ∧ m' ((c.tc : Thread Cert.RefEvenIdeal.nD Cert.RefEvenIdeal.τ).loc Cert.RefEvenIdeal.main_arg7) = m ((c.tc : Thread Cert.PostEvenIdeal.nD Cert.PostEvenIdeal.τ).loc Cert.PostEvenIdeal.main_arg7)
      ∧ m' ((c.tc : Thread Cert.RefEvenIdeal.nD Cert.RefEvenIdeal.τ).loc Cert.RefEvenIdeal.main_arg8) = m ((c.tc : Thread Cert.PostEvenIdeal.nD Cert.PostEvenIdeal.τ).loc Cert.PostEvenIdeal.main_arg8)
      ∧ m' ((c.tc : Thread Cert.RefEvenIdeal.nD Cert.RefEvenIdeal.τ).loc Cert.RefEvenIdeal.main_arg9) = m ((c.tc : Thread Cert.PostEvenIdeal.nD Cert.PostEvenIdeal.τ).loc Cert.PostEvenIdeal.main_arg9)
      ∧ m' ((c.tc : Thread Cert.RefEvenIdeal.nD Cert.RefEvenIdeal.τ).loc Cert.RefEvenIdeal.main_arg10) = m ((c.tc : Thread Cert.PostEvenIdeal.nD Cert.PostEvenIdeal.τ).loc Cert.PostEvenIdeal.main_arg10)
      ∧ m' ((c.tc : Thread Cert.RefEvenIdeal.nD Cert.RefEvenIdeal.τ).loc Cert.RefEvenIdeal.main_arg11) = m ((c.tc : Thread Cert.PostEvenIdeal.nD Cert.PostEvenIdeal.τ).loc Cert.PostEvenIdeal.main_arg11)
      ∧ m' ((c.tc : Thread Cert.RefEvenIdeal.nD Cert.RefEvenIdeal.τ).loc Cert.RefEvenIdeal.main_arg12) = m ((c.tc : Thread Cert.PostEvenIdeal.nD Cert.PostEvenIdeal.τ).loc Cert.PostEvenIdeal.main_arg12)) →
    ∃ (v0 : (c : Dev Cert.PostEvenIdeal.nD) → Buf (Elt Ideal) ((c.tc : Thread Cert.PostEvenIdeal.nD Cert.PostEvenIdeal.τ).loc Cert.PostEvenIdeal.main_v9)),
      θ_run (Cert.PostEvenIdeal.defs (F := Ideal)) (onTc (τ := Cert.PostEvenIdeal.τ) (Cert.PostEvenIdeal.main (F := Ideal))) ⟨m, fun _ => 0, g⟩ (fun r => ∀ c : Dev Cert.PostEvenIdeal.nD,
          r.2.mem ((c.tc : Thread Cert.PostEvenIdeal.nD Cert.PostEvenIdeal.τ).loc Cert.PostEvenIdeal.main_v9) = v0 c
          ∧ r.2.mem ((c.tc : Thread Cert.PostEvenIdeal.nD Cert.PostEvenIdeal.τ).loc Cert.PostEvenIdeal.main_arg0) = m ((c.tc : Thread Cert.PostEvenIdeal.nD Cert.PostEvenIdeal.τ).loc Cert.PostEvenIdeal.main_arg0)
          ∧ r.2.mem ((c.tc : Thread Cert.PostEvenIdeal.nD Cert.PostEvenIdeal.τ).loc Cert.PostEvenIdeal.main_arg1) = m ((c.tc : Thread Cert.PostEvenIdeal.nD Cert.PostEvenIdeal.τ).loc Cert.PostEvenIdeal.main_arg1)
          ∧ r.2.mem ((c.tc : Thread Cert.PostEvenIdeal.nD Cert.PostEvenIdeal.τ).loc Cert.PostEvenIdeal.main_arg2) = m ((c.tc : Thread Cert.PostEvenIdeal.nD Cert.PostEvenIdeal.τ).loc Cert.PostEvenIdeal.main_arg2)
          ∧ r.2.mem ((c.tc : Thread Cert.PostEvenIdeal.nD Cert.PostEvenIdeal.τ).loc Cert.PostEvenIdeal.main_arg3) = m ((c.tc : Thread Cert.PostEvenIdeal.nD Cert.PostEvenIdeal.τ).loc Cert.PostEvenIdeal.main_arg3)
          ∧ r.2.mem ((c.tc : Thread Cert.PostEvenIdeal.nD Cert.PostEvenIdeal.τ).loc Cert.PostEvenIdeal.main_arg4) = m ((c.tc : Thread Cert.PostEvenIdeal.nD Cert.PostEvenIdeal.τ).loc Cert.PostEvenIdeal.main_arg4)
          ∧ r.2.mem ((c.tc : Thread Cert.PostEvenIdeal.nD Cert.PostEvenIdeal.τ).loc Cert.PostEvenIdeal.main_arg5) = m ((c.tc : Thread Cert.PostEvenIdeal.nD Cert.PostEvenIdeal.τ).loc Cert.PostEvenIdeal.main_arg5)
          ∧ r.2.mem ((c.tc : Thread Cert.PostEvenIdeal.nD Cert.PostEvenIdeal.τ).loc Cert.PostEvenIdeal.main_arg6) = m ((c.tc : Thread Cert.PostEvenIdeal.nD Cert.PostEvenIdeal.τ).loc Cert.PostEvenIdeal.main_arg6)
          ∧ r.2.mem ((c.tc : Thread Cert.PostEvenIdeal.nD Cert.PostEvenIdeal.τ).loc Cert.PostEvenIdeal.main_arg7) = m ((c.tc : Thread Cert.PostEvenIdeal.nD Cert.PostEvenIdeal.τ).loc Cert.PostEvenIdeal.main_arg7)
          ∧ r.2.mem ((c.tc : Thread Cert.PostEvenIdeal.nD Cert.PostEvenIdeal.τ).loc Cert.PostEvenIdeal.main_arg8) = m ((c.tc : Thread Cert.PostEvenIdeal.nD Cert.PostEvenIdeal.τ).loc Cert.PostEvenIdeal.main_arg8)
          ∧ r.2.mem ((c.tc : Thread Cert.PostEvenIdeal.nD Cert.PostEvenIdeal.τ).loc Cert.PostEvenIdeal.main_arg9) = m ((c.tc : Thread Cert.PostEvenIdeal.nD Cert.PostEvenIdeal.τ).loc Cert.PostEvenIdeal.main_arg9)
          ∧ r.2.mem ((c.tc : Thread Cert.PostEvenIdeal.nD Cert.PostEvenIdeal.τ).loc Cert.PostEvenIdeal.main_arg10) = m ((c.tc : Thread Cert.PostEvenIdeal.nD Cert.PostEvenIdeal.τ).loc Cert.PostEvenIdeal.main_arg10)
          ∧ r.2.mem ((c.tc : Thread Cert.PostEvenIdeal.nD Cert.PostEvenIdeal.τ).loc Cert.PostEvenIdeal.main_arg11) = m ((c.tc : Thread Cert.PostEvenIdeal.nD Cert.PostEvenIdeal.τ).loc Cert.PostEvenIdeal.main_arg11)
          ∧ r.2.mem ((c.tc : Thread Cert.PostEvenIdeal.nD Cert.PostEvenIdeal.τ).loc Cert.PostEvenIdeal.main_arg12) = m ((c.tc : Thread Cert.PostEvenIdeal.nD Cert.PostEvenIdeal.τ).loc Cert.PostEvenIdeal.main_arg12))
      ∧ θ_run (Cert.RefEvenIdeal.defs (F := Ideal)) (onTc (τ := Cert.RefEvenIdeal.τ) (Cert.RefEvenIdeal.main (F := Ideal))) ⟨m', fun _ => 0, g'⟩ (fun r => ∀ c : Dev Cert.RefEvenIdeal.nD,
          r.2.mem ((c.tc : Thread Cert.RefEvenIdeal.nD Cert.RefEvenIdeal.τ).loc Cert.RefEvenIdeal.main_v88) = v0 c
          ∧ r.2.mem ((c.tc : Thread Cert.RefEvenIdeal.nD Cert.RefEvenIdeal.τ).loc Cert.RefEvenIdeal.main_arg0) = m' ((c.tc : Thread Cert.RefEvenIdeal.nD Cert.RefEvenIdeal.τ).loc Cert.RefEvenIdeal.main_arg0)
          ∧ r.2.mem ((c.tc : Thread Cert.RefEvenIdeal.nD Cert.RefEvenIdeal.τ).loc Cert.RefEvenIdeal.main_arg1) = m' ((c.tc : Thread Cert.RefEvenIdeal.nD Cert.RefEvenIdeal.τ).loc Cert.RefEvenIdeal.main_arg1)
          ∧ r.2.mem ((c.tc : Thread Cert.RefEvenIdeal.nD Cert.RefEvenIdeal.τ).loc Cert.RefEvenIdeal.main_arg2) = m' ((c.tc : Thread Cert.RefEvenIdeal.nD Cert.RefEvenIdeal.τ).loc Cert.RefEvenIdeal.main_arg2)
          ∧ r.2.mem ((c.tc : Thread Cert.RefEvenIdeal.nD Cert.RefEvenIdeal.τ).loc Cert.RefEvenIdeal.main_arg3) = m' ((c.tc : Thread Cert.RefEvenIdeal.nD Cert.RefEvenIdeal.τ).loc Cert.RefEvenIdeal.main_arg3)
          ∧ r.2.mem ((c.tc : Thread Cert.RefEvenIdeal.nD Cert.RefEvenIdeal.τ).loc Cert.RefEvenIdeal.main_arg4) = m' ((c.tc : Thread Cert.RefEvenIdeal.nD Cert.RefEvenIdeal.τ).loc Cert.RefEvenIdeal.main_arg4)
          ∧ r.2.mem ((c.tc : Thread Cert.RefEvenIdeal.nD Cert.RefEvenIdeal.τ).loc Cert.RefEvenIdeal.main_arg5) = m' ((c.tc : Thread Cert.RefEvenIdeal.nD Cert.RefEvenIdeal.τ).loc Cert.RefEvenIdeal.main_arg5)
          ∧ r.2.mem ((c.tc : Thread Cert.RefEvenIdeal.nD Cert.RefEvenIdeal.τ).loc Cert.RefEvenIdeal.main_arg6) = m' ((c.tc : Thread Cert.RefEvenIdeal.nD Cert.RefEvenIdeal.τ).loc Cert.RefEvenIdeal.main_arg6)
          ∧ r.2.mem ((c.tc : Thread Cert.RefEvenIdeal.nD Cert.RefEvenIdeal.τ).loc Cert.RefEvenIdeal.main_arg7) = m' ((c.tc : Thread Cert.RefEvenIdeal.nD Cert.RefEvenIdeal.τ).loc Cert.RefEvenIdeal.main_arg7)
          ∧ r.2.mem ((c.tc : Thread Cert.RefEvenIdeal.nD Cert.RefEvenIdeal.τ).loc Cert.RefEvenIdeal.main_arg8) = m' ((c.tc : Thread Cert.RefEvenIdeal.nD Cert.RefEvenIdeal.τ).loc Cert.RefEvenIdeal.main_arg8)
          ∧ r.2.mem ((c.tc : Thread Cert.RefEvenIdeal.nD Cert.RefEvenIdeal.τ).loc Cert.RefEvenIdeal.main_arg9) = m' ((c.tc : Thread Cert.RefEvenIdeal.nD Cert.RefEvenIdeal.τ).loc Cert.RefEvenIdeal.main_arg9)
          ∧ r.2.mem ((c.tc : Thread Cert.RefEvenIdeal.nD Cert.RefEvenIdeal.τ).loc Cert.RefEvenIdeal.main_arg10) = m' ((c.tc : Thread Cert.RefEvenIdeal.nD Cert.RefEvenIdeal.τ).loc Cert.RefEvenIdeal.main_arg10)
          ∧ r.2.mem ((c.tc : Thread Cert.RefEvenIdeal.nD Cert.RefEvenIdeal.τ).loc Cert.RefEvenIdeal.main_arg11) = m' ((c.tc : Thread Cert.RefEvenIdeal.nD Cert.RefEvenIdeal.τ).loc Cert.RefEvenIdeal.main_arg11)
          ∧ r.2.mem ((c.tc : Thread Cert.RefEvenIdeal.nD Cert.RefEvenIdeal.τ).loc Cert.RefEvenIdeal.main_arg12) = m' ((c.tc : Thread Cert.RefEvenIdeal.nD Cert.RefEvenIdeal.τ).loc Cert.RefEvenIdeal.main_arg12))

def preserves_PostOdd_PostOddIdeal : Prop :=
  True

def algebraic_PostOddIdeal_RefOddIdeal [hPostOddIdeal : Cert.PostOddIdeal.Facts] [hRefOddIdeal : Cert.RefOddIdeal.Facts] : Prop :=
  ∀ (m : (ℓ : Loc Cert.PostOddIdeal.nD Cert.PostOddIdeal.τ Cert.PostOddIdeal.sig) → Buf (Elt Ideal) ℓ) (g : Dev Cert.PostOddIdeal.nD → PrngReg)
    (m' : (ℓ : Loc Cert.RefOddIdeal.nD Cert.RefOddIdeal.τ Cert.RefOddIdeal.sig) → Buf (Elt Ideal) ℓ) (g' : Dev Cert.RefOddIdeal.nD → PrngReg), Pre_PostOddIdeal m →
    (∀ c : Dev Cert.PostOddIdeal.nD,
      m' ((c.tc : Thread Cert.RefOddIdeal.nD Cert.RefOddIdeal.τ).loc Cert.RefOddIdeal.main_arg0) = m ((c.tc : Thread Cert.PostOddIdeal.nD Cert.PostOddIdeal.τ).loc Cert.PostOddIdeal.main_arg0)
      ∧ m' ((c.tc : Thread Cert.RefOddIdeal.nD Cert.RefOddIdeal.τ).loc Cert.RefOddIdeal.main_arg1) = m ((c.tc : Thread Cert.PostOddIdeal.nD Cert.PostOddIdeal.τ).loc Cert.PostOddIdeal.main_arg1)
      ∧ m' ((c.tc : Thread Cert.RefOddIdeal.nD Cert.RefOddIdeal.τ).loc Cert.RefOddIdeal.main_arg2) = m ((c.tc : Thread Cert.PostOddIdeal.nD Cert.PostOddIdeal.τ).loc Cert.PostOddIdeal.main_arg2)
      ∧ m' ((c.tc : Thread Cert.RefOddIdeal.nD Cert.RefOddIdeal.τ).loc Cert.RefOddIdeal.main_arg3) = m ((c.tc : Thread Cert.PostOddIdeal.nD Cert.PostOddIdeal.τ).loc Cert.PostOddIdeal.main_arg3)
      ∧ m' ((c.tc : Thread Cert.RefOddIdeal.nD Cert.RefOddIdeal.τ).loc Cert.RefOddIdeal.main_arg4) = m ((c.tc : Thread Cert.PostOddIdeal.nD Cert.PostOddIdeal.τ).loc Cert.PostOddIdeal.main_arg4)
      ∧ m' ((c.tc : Thread Cert.RefOddIdeal.nD Cert.RefOddIdeal.τ).loc Cert.RefOddIdeal.main_arg5) = m ((c.tc : Thread Cert.PostOddIdeal.nD Cert.PostOddIdeal.τ).loc Cert.PostOddIdeal.main_arg5)
      ∧ m' ((c.tc : Thread Cert.RefOddIdeal.nD Cert.RefOddIdeal.τ).loc Cert.RefOddIdeal.main_arg6) = m ((c.tc : Thread Cert.PostOddIdeal.nD Cert.PostOddIdeal.τ).loc Cert.PostOddIdeal.main_arg6)
      ∧ m' ((c.tc : Thread Cert.RefOddIdeal.nD Cert.RefOddIdeal.τ).loc Cert.RefOddIdeal.main_arg7) = m ((c.tc : Thread Cert.PostOddIdeal.nD Cert.PostOddIdeal.τ).loc Cert.PostOddIdeal.main_arg7)
      ∧ m' ((c.tc : Thread Cert.RefOddIdeal.nD Cert.RefOddIdeal.τ).loc Cert.RefOddIdeal.main_arg8) = m ((c.tc : Thread Cert.PostOddIdeal.nD Cert.PostOddIdeal.τ).loc Cert.PostOddIdeal.main_arg8)
      ∧ m' ((c.tc : Thread Cert.RefOddIdeal.nD Cert.RefOddIdeal.τ).loc Cert.RefOddIdeal.main_arg9) = m ((c.tc : Thread Cert.PostOddIdeal.nD Cert.PostOddIdeal.τ).loc Cert.PostOddIdeal.main_arg9)
      ∧ m' ((c.tc : Thread Cert.RefOddIdeal.nD Cert.RefOddIdeal.τ).loc Cert.RefOddIdeal.main_arg10) = m ((c.tc : Thread Cert.PostOddIdeal.nD Cert.PostOddIdeal.τ).loc Cert.PostOddIdeal.main_arg10)
      ∧ m' ((c.tc : Thread Cert.RefOddIdeal.nD Cert.RefOddIdeal.τ).loc Cert.RefOddIdeal.main_arg11) = m ((c.tc : Thread Cert.PostOddIdeal.nD Cert.PostOddIdeal.τ).loc Cert.PostOddIdeal.main_arg11)
      ∧ m' ((c.tc : Thread Cert.RefOddIdeal.nD Cert.RefOddIdeal.τ).loc Cert.RefOddIdeal.main_arg12) = m ((c.tc : Thread Cert.PostOddIdeal.nD Cert.PostOddIdeal.τ).loc Cert.PostOddIdeal.main_arg12)
      ∧ m' ((c.tc : Thread Cert.RefOddIdeal.nD Cert.RefOddIdeal.τ).loc Cert.RefOddIdeal.main_arg13) = m ((c.tc : Thread Cert.PostOddIdeal.nD Cert.PostOddIdeal.τ).loc Cert.PostOddIdeal.main_arg13)) →
    ∃ (v0 : (c : Dev Cert.PostOddIdeal.nD) → Buf (Elt Ideal) ((c.tc : Thread Cert.PostOddIdeal.nD Cert.PostOddIdeal.τ).loc Cert.PostOddIdeal.main_v8)),
      θ_run (Cert.PostOddIdeal.defs (F := Ideal)) (onTc (τ := Cert.PostOddIdeal.τ) (Cert.PostOddIdeal.main (F := Ideal))) ⟨m, fun _ => 0, g⟩ (fun r => ∀ c : Dev Cert.PostOddIdeal.nD,
          r.2.mem ((c.tc : Thread Cert.PostOddIdeal.nD Cert.PostOddIdeal.τ).loc Cert.PostOddIdeal.main_v8) = v0 c
          ∧ r.2.mem ((c.tc : Thread Cert.PostOddIdeal.nD Cert.PostOddIdeal.τ).loc Cert.PostOddIdeal.main_arg0) = m ((c.tc : Thread Cert.PostOddIdeal.nD Cert.PostOddIdeal.τ).loc Cert.PostOddIdeal.main_arg0)
          ∧ r.2.mem ((c.tc : Thread Cert.PostOddIdeal.nD Cert.PostOddIdeal.τ).loc Cert.PostOddIdeal.main_arg1) = m ((c.tc : Thread Cert.PostOddIdeal.nD Cert.PostOddIdeal.τ).loc Cert.PostOddIdeal.main_arg1)
          ∧ r.2.mem ((c.tc : Thread Cert.PostOddIdeal.nD Cert.PostOddIdeal.τ).loc Cert.PostOddIdeal.main_arg2) = m ((c.tc : Thread Cert.PostOddIdeal.nD Cert.PostOddIdeal.τ).loc Cert.PostOddIdeal.main_arg2)
          ∧ r.2.mem ((c.tc : Thread Cert.PostOddIdeal.nD Cert.PostOddIdeal.τ).loc Cert.PostOddIdeal.main_arg3) = m ((c.tc : Thread Cert.PostOddIdeal.nD Cert.PostOddIdeal.τ).loc Cert.PostOddIdeal.main_arg3)
          ∧ r.2.mem ((c.tc : Thread Cert.PostOddIdeal.nD Cert.PostOddIdeal.τ).loc Cert.PostOddIdeal.main_arg4) = m ((c.tc : Thread Cert.PostOddIdeal.nD Cert.PostOddIdeal.τ).loc Cert.PostOddIdeal.main_arg4)
          ∧ r.2.mem ((c.tc : Thread Cert.PostOddIdeal.nD Cert.PostOddIdeal.τ).loc Cert.PostOddIdeal.main_arg5) = m ((c.tc : Thread Cert.PostOddIdeal.nD Cert.PostOddIdeal.τ).loc Cert.PostOddIdeal.main_arg5)
          ∧ r.2.mem ((c.tc : Thread Cert.PostOddIdeal.nD Cert.PostOddIdeal.τ).loc Cert.PostOddIdeal.main_arg6) = m ((c.tc : Thread Cert.PostOddIdeal.nD Cert.PostOddIdeal.τ).loc Cert.PostOddIdeal.main_arg6)
          ∧ r.2.mem ((c.tc : Thread Cert.PostOddIdeal.nD Cert.PostOddIdeal.τ).loc Cert.PostOddIdeal.main_arg7) = m ((c.tc : Thread Cert.PostOddIdeal.nD Cert.PostOddIdeal.τ).loc Cert.PostOddIdeal.main_arg7)
          ∧ r.2.mem ((c.tc : Thread Cert.PostOddIdeal.nD Cert.PostOddIdeal.τ).loc Cert.PostOddIdeal.main_arg8) = m ((c.tc : Thread Cert.PostOddIdeal.nD Cert.PostOddIdeal.τ).loc Cert.PostOddIdeal.main_arg8)
          ∧ r.2.mem ((c.tc : Thread Cert.PostOddIdeal.nD Cert.PostOddIdeal.τ).loc Cert.PostOddIdeal.main_arg9) = m ((c.tc : Thread Cert.PostOddIdeal.nD Cert.PostOddIdeal.τ).loc Cert.PostOddIdeal.main_arg9)
          ∧ r.2.mem ((c.tc : Thread Cert.PostOddIdeal.nD Cert.PostOddIdeal.τ).loc Cert.PostOddIdeal.main_arg10) = m ((c.tc : Thread Cert.PostOddIdeal.nD Cert.PostOddIdeal.τ).loc Cert.PostOddIdeal.main_arg10)
          ∧ r.2.mem ((c.tc : Thread Cert.PostOddIdeal.nD Cert.PostOddIdeal.τ).loc Cert.PostOddIdeal.main_arg11) = m ((c.tc : Thread Cert.PostOddIdeal.nD Cert.PostOddIdeal.τ).loc Cert.PostOddIdeal.main_arg11)
          ∧ r.2.mem ((c.tc : Thread Cert.PostOddIdeal.nD Cert.PostOddIdeal.τ).loc Cert.PostOddIdeal.main_arg12) = m ((c.tc : Thread Cert.PostOddIdeal.nD Cert.PostOddIdeal.τ).loc Cert.PostOddIdeal.main_arg12)
          ∧ r.2.mem ((c.tc : Thread Cert.PostOddIdeal.nD Cert.PostOddIdeal.τ).loc Cert.PostOddIdeal.main_arg13) = m ((c.tc : Thread Cert.PostOddIdeal.nD Cert.PostOddIdeal.τ).loc Cert.PostOddIdeal.main_arg13))
      ∧ θ_run (Cert.RefOddIdeal.defs (F := Ideal)) (onTc (τ := Cert.RefOddIdeal.τ) (Cert.RefOddIdeal.main (F := Ideal))) ⟨m', fun _ => 0, g'⟩ (fun r => ∀ c : Dev Cert.RefOddIdeal.nD,
          r.2.mem ((c.tc : Thread Cert.RefOddIdeal.nD Cert.RefOddIdeal.τ).loc Cert.RefOddIdeal.main_v97) = v0 c
          ∧ r.2.mem ((c.tc : Thread Cert.RefOddIdeal.nD Cert.RefOddIdeal.τ).loc Cert.RefOddIdeal.main_arg0) = m' ((c.tc : Thread Cert.RefOddIdeal.nD Cert.RefOddIdeal.τ).loc Cert.RefOddIdeal.main_arg0)
          ∧ r.2.mem ((c.tc : Thread Cert.RefOddIdeal.nD Cert.RefOddIdeal.τ).loc Cert.RefOddIdeal.main_arg1) = m' ((c.tc : Thread Cert.RefOddIdeal.nD Cert.RefOddIdeal.τ).loc Cert.RefOddIdeal.main_arg1)
          ∧ r.2.mem ((c.tc : Thread Cert.RefOddIdeal.nD Cert.RefOddIdeal.τ).loc Cert.RefOddIdeal.main_arg2) = m' ((c.tc : Thread Cert.RefOddIdeal.nD Cert.RefOddIdeal.τ).loc Cert.RefOddIdeal.main_arg2)
          ∧ r.2.mem ((c.tc : Thread Cert.RefOddIdeal.nD Cert.RefOddIdeal.τ).loc Cert.RefOddIdeal.main_arg3) = m' ((c.tc : Thread Cert.RefOddIdeal.nD Cert.RefOddIdeal.τ).loc Cert.RefOddIdeal.main_arg3)
          ∧ r.2.mem ((c.tc : Thread Cert.RefOddIdeal.nD Cert.RefOddIdeal.τ).loc Cert.RefOddIdeal.main_arg4) = m' ((c.tc : Thread Cert.RefOddIdeal.nD Cert.RefOddIdeal.τ).loc Cert.RefOddIdeal.main_arg4)
          ∧ r.2.mem ((c.tc : Thread Cert.RefOddIdeal.nD Cert.RefOddIdeal.τ).loc Cert.RefOddIdeal.main_arg5) = m' ((c.tc : Thread Cert.RefOddIdeal.nD Cert.RefOddIdeal.τ).loc Cert.RefOddIdeal.main_arg5)
          ∧ r.2.mem ((c.tc : Thread Cert.RefOddIdeal.nD Cert.RefOddIdeal.τ).loc Cert.RefOddIdeal.main_arg6) = m' ((c.tc : Thread Cert.RefOddIdeal.nD Cert.RefOddIdeal.τ).loc Cert.RefOddIdeal.main_arg6)
          ∧ r.2.mem ((c.tc : Thread Cert.RefOddIdeal.nD Cert.RefOddIdeal.τ).loc Cert.RefOddIdeal.main_arg7) = m' ((c.tc : Thread Cert.RefOddIdeal.nD Cert.RefOddIdeal.τ).loc Cert.RefOddIdeal.main_arg7)
          ∧ r.2.mem ((c.tc : Thread Cert.RefOddIdeal.nD Cert.RefOddIdeal.τ).loc Cert.RefOddIdeal.main_arg8) = m' ((c.tc : Thread Cert.RefOddIdeal.nD Cert.RefOddIdeal.τ).loc Cert.RefOddIdeal.main_arg8)
          ∧ r.2.mem ((c.tc : Thread Cert.RefOddIdeal.nD Cert.RefOddIdeal.τ).loc Cert.RefOddIdeal.main_arg9) = m' ((c.tc : Thread Cert.RefOddIdeal.nD Cert.RefOddIdeal.τ).loc Cert.RefOddIdeal.main_arg9)
          ∧ r.2.mem ((c.tc : Thread Cert.RefOddIdeal.nD Cert.RefOddIdeal.τ).loc Cert.RefOddIdeal.main_arg10) = m' ((c.tc : Thread Cert.RefOddIdeal.nD Cert.RefOddIdeal.τ).loc Cert.RefOddIdeal.main_arg10)
          ∧ r.2.mem ((c.tc : Thread Cert.RefOddIdeal.nD Cert.RefOddIdeal.τ).loc Cert.RefOddIdeal.main_arg11) = m' ((c.tc : Thread Cert.RefOddIdeal.nD Cert.RefOddIdeal.τ).loc Cert.RefOddIdeal.main_arg11)
          ∧ r.2.mem ((c.tc : Thread Cert.RefOddIdeal.nD Cert.RefOddIdeal.τ).loc Cert.RefOddIdeal.main_arg12) = m' ((c.tc : Thread Cert.RefOddIdeal.nD Cert.RefOddIdeal.τ).loc Cert.RefOddIdeal.main_arg12)
          ∧ r.2.mem ((c.tc : Thread Cert.RefOddIdeal.nD Cert.RefOddIdeal.τ).loc Cert.RefOddIdeal.main_arg13) = m' ((c.tc : Thread Cert.RefOddIdeal.nD Cert.RefOddIdeal.τ).loc Cert.RefOddIdeal.main_arg13))

def Claim : Prop :=
  ∃ (hKernel : Cert.Kernel.Facts) (hKernelIdeal : Cert.KernelIdeal.Facts) (hReferenceIdeal : Cert.ReferenceIdeal.Facts) (hPostEven : Cert.PostEven.Facts) (hPostEvenIdeal : Cert.PostEvenIdeal.Facts) (hRefEvenIdeal : Cert.RefEvenIdeal.Facts) (hPostOdd : Cert.PostOdd.Facts) (hPostOddIdeal : Cert.PostOddIdeal.Facts) (hRefOddIdeal : Cert.RefOddIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_PostEven (hPostEven := hPostEven)
    ∧ quiescent_PostEvenIdeal (hPostEvenIdeal := hPostEvenIdeal)
    ∧ quiescent_RefEvenIdeal (hRefEvenIdeal := hRefEvenIdeal)
    ∧ quiescent_PostOdd (hPostOdd := hPostOdd)
    ∧ quiescent_PostOddIdeal (hPostOddIdeal := hPostOddIdeal)
    ∧ quiescent_RefOddIdeal (hRefOddIdeal := hRefOddIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_PostEven_PostEvenIdeal
    ∧ algebraic_PostEvenIdeal_RefEvenIdeal (hPostEvenIdeal := hPostEvenIdeal) (hRefEvenIdeal := hRefEvenIdeal)
    ∧ preserves_PostOdd_PostOddIdeal
    ∧ algebraic_PostOddIdeal_RefOddIdeal (hPostOddIdeal := hPostOddIdeal) (hRefOddIdeal := hRefOddIdeal)
-- ==== Pre_finite_scores.lean ====
abbrev S8x2048x8x64 : Shape := ⟨4, ![8, 2048, 8, 64]⟩
abbrev S8x2048x2x64 : Shape := ⟨4, ![8, 2048, 2, 64]⟩
abbrev S8x2x512x64 : Shape := ⟨4, ![8, 2, 512, 64]⟩
abbrev S_ : Shape := ⟨0, ![]⟩

class Facts : Prop where
  bcast_S_S8x2048x8x64 : S_.BroadcastsInDim S8x2048x8x64 (![] : Fin 0 → Fin S8x2048x8x64.rank)
  reducesTo_S8x2048x8x64_S_d0_1_2_3 : S8x2048x8x64.ReducesTo [0, 1, 2, 3] S_
  h_S_ : 0 < S_.numel
  bcast_S_S8x2048x2x64 : S_.BroadcastsInDim S8x2048x2x64 (![] : Fin 0 → Fin S8x2048x2x64.rank)
  reducesTo_S8x2048x2x64_S_d0_1_2_3 : S8x2048x2x64.ReducesTo [0, 1, 2, 3] S_
  bcast_S_S8x2x512x64 : S_.BroadcastsInDim S8x2x512x64 (![] : Fin 0 → Fin S8x2x512x64.rank)
  reducesTo_S8x2x512x64_S_d0_1_2_3 : S8x2x512x64.ReducesTo [0, 1, 2, 3] S_

variable [Facts]

def fn {F : FTy → Type} [FloatOps F] (main_arg0 : FVec F S8x2048x8x64 .f32) (main_arg1 : FVec F S8x2048x2x64 .f32) (main_arg2 : FVec F S8x2048x2x64 .f32) (main_arg3 : FVec F S8x2x512x64 .f32) (main_arg4 : FVec F S8x2x512x64 .f32) : IVec S_ 1 :=
  let main_v0 : FVec F S8x2048x8x64 .f32 := Host.absf main_arg0
  let main_cst : FVec F S_ .f32 := constant S_ .f32 0x7F800000#32
  let main_v1 : FVec F S8x2048x8x64 .f32 := broadcastInDim S8x2048x8x64 ![] bcast_S_S8x2048x8x64 main_cst
  let main_v2 : IVec S8x2048x8x64 1 := cmpf .olt main_v0 main_v1
  let main_c : IVec S_ 1 := constantI S_ 1 1#1
  let main_v3 : IVec S_ 1 := (fun x v => Host.reduce IntOp.andi x v reducesTo_S8x2048x8x64_S_d0_1_2_3 h_S_) main_v2 main_c
  let main_v4 : FVec F S8x2048x2x64 .f32 := Host.absf main_arg1
  let main_cst_0 : FVec F S_ .f32 := constant S_ .f32 0x7F800000#32
  let main_v5 : FVec F S8x2048x2x64 .f32 := broadcastInDim S8x2048x2x64 ![] bcast_S_S8x2048x2x64 main_cst_0
  let main_v6 : IVec S8x2048x2x64 1 := cmpf .olt main_v4 main_v5
  let main_c_1 : IVec S_ 1 := constantI S_ 1 1#1
  let main_v7 : IVec S_ 1 := (fun x v => Host.reduce IntOp.andi x v reducesTo_S8x2048x2x64_S_d0_1_2_3 h_S_) main_v6 main_c_1
  let main_v8 : IVec S_ 1 := andi main_v3 main_v7
  let main_v9 : FVec F S8x2x512x64 .f32 := Host.absf main_arg3
  let main_cst_2 : FVec F S_ .f32 := constant S_ .f32 0x7F800000#32
  let main_v10 : FVec F S8x2x512x64 .f32 := broadcastInDim S8x2x512x64 ![] bcast_S_S8x2x512x64 main_cst_2
  let main_v11 : IVec S8x2x512x64 1 := cmpf .olt main_v9 main_v10
  let main_c_3 : IVec S_ 1 := constantI S_ 1 1#1
  let main_v12 : IVec S_ 1 := (fun x v => Host.reduce IntOp.andi x v reducesTo_S8x2x512x64_S_d0_1_2_3 h_S_) main_v11 main_c_3
  let main_v13 : IVec S_ 1 := andi main_v8 main_v12
  main_v13
-- ==== Kernel.lean ====
abbrev S8x2048x8x64 : Shape := ⟨4, ![8, 2048, 8, 64]⟩
abbrev S8x2048x2x64 : Shape := ⟨4, ![8, 2048, 2, 64]⟩
abbrev S8x2x512x64 : Shape := ⟨4, ![8, 2, 512, 64]⟩
abbrev S8x2048x512 : Shape := ⟨3, ![8, 2048, 512]⟩
abbrev S8x2x2048x64 : Shape := ⟨4, ![8, 2, 2048, 64]⟩
abbrev S8x1x2048x64 : Shape := ⟨4, ![8, 1, 2048, 64]⟩
abbrev S8x2048x64 : Shape := ⟨3, ![8, 2048, 64]⟩
abbrev S_ : Shape := ⟨0, ![]⟩
abbrev S1 : Shape := ⟨1, ![1]⟩
abbrev S8x2048 : Shape := ⟨2, ![8, 2048]⟩
abbrev S8x1x512x64 : Shape := ⟨4, ![8, 1, 512, 64]⟩
abbrev S8x512x64 : Shape := ⟨3, ![8, 512, 64]⟩
abbrev S8x512x512 : Shape := ⟨3, ![8, 512, 512]⟩
abbrev S8x512 : Shape := ⟨2, ![8, 512]⟩
abbrev S1x256x512 : Shape := ⟨3, ![1, 256, 512]⟩
abbrev S1x2048x512 : Shape := ⟨3, ![1, 2048, 512]⟩
abbrev S1x512x512 : Shape := ⟨3, ![1, 512, 512]⟩
abbrev S1x256x128 : Shape := ⟨3, ![1, 256, 128]⟩
abbrev S256x128 : Shape := ⟨2, ![256, 128]⟩
abbrev S512x128 : Shape := ⟨2, ![512, 128]⟩
abbrev S1x2048x128 : Shape := ⟨3, ![1, 2048, 128]⟩
abbrev S2048x128 : Shape := ⟨2, ![2048, 128]⟩
abbrev S512x2048 : Shape := ⟨2, ![512, 2048]⟩
abbrev S1x512x128 : Shape := ⟨3, ![1, 512, 128]⟩
abbrev S512x512 : Shape := ⟨2, ![512, 512]⟩
abbrev S512 : Shape := ⟨1, ![512]⟩
abbrev S512x1 : Shape := ⟨2, ![512, 1]⟩

abbrev nBuf : Space → Nat
  | .hbm => 75
  | .vmem => 12
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x2x64, .f32⟩
  | .hbm, ⟨2, _⟩ => ⟨S8x2048x2x64, .f32⟩
  | .hbm, ⟨3, _⟩ => ⟨S8x2x512x64, .f32⟩
  | .hbm, ⟨4, _⟩ => ⟨S8x2x512x64, .f32⟩
  | .hbm, ⟨5, _⟩ => ⟨S8x2048x512, .f32⟩
  | .hbm, ⟨6, _⟩ => ⟨S8x2x2048x64, .f32⟩
  | .hbm, ⟨7, _⟩ => ⟨S8x1x2048x64, .f32⟩
  | .hbm, ⟨8, _⟩ => ⟨S8x2048x64, .f32⟩
  | .hbm, ⟨9, _⟩ => ⟨S_, .f32⟩
  | .hbm, ⟨10, _⟩ => ⟨S8x2048x64, .f32⟩
  | .hbm, ⟨11, _⟩ => ⟨S8x1x2048x64, .f32⟩
  | .hbm, ⟨12, _⟩ => ⟨S8x2048x64, .f32⟩
  | .hbm, ⟨13, _⟩ => ⟨S8x1x2048x64, .f32⟩
  | .hbm, ⟨14, _⟩ => ⟨S8x2048x64, .f32⟩
  | .hbm, ⟨15, _⟩ => ⟨S8x1x2048x64, .f32⟩
  | .hbm, ⟨16, _⟩ => ⟨S8x2048x64, .f32⟩
  | .hbm, ⟨17, _⟩ => ⟨S8x1x2048x64, .f32⟩
  | .hbm, ⟨18, _⟩ => ⟨S8x2048x64, .f32⟩
  | .hbm, ⟨19, _⟩ => ⟨S8x2048x512, .f32⟩
  | .hbm, ⟨20, _⟩ => ⟨S8x2048x512, .bf16⟩
  | .hbm, ⟨21, _⟩ => ⟨S8x2x2048x64, .f32⟩
  | .hbm, ⟨22, _⟩ => ⟨S8x1x2048x64, .f32⟩
  | .hbm, ⟨23, _⟩ => ⟨S8x2048x64, .f32⟩
  | .hbm, ⟨24, _⟩ => ⟨S_, .f32⟩
  | .hbm, ⟨25, _⟩ => ⟨S8x2048x64, .f32⟩
  | .hbm, ⟨26, _⟩ => ⟨S_, .i32⟩
  | .hbm, ⟨27, _⟩ => ⟨S1, .i32⟩
  | .hbm, ⟨28, _⟩ => ⟨S_, .f32⟩
  | .hbm, ⟨29, _⟩ => ⟨S8x2048, .f32⟩
  | .hbm, ⟨30, _⟩ => ⟨S8x2048x64, .f32⟩
  | .hbm, ⟨31, _⟩ => ⟨S8x1x2048x64, .f32⟩
  | .hbm, ⟨32, _⟩ => ⟨S8x2048x64, .f32⟩
  | .hbm, ⟨33, _⟩ => ⟨S8x1x2048x64, .f32⟩
  | .hbm, ⟨34, _⟩ => ⟨S8x2048x64, .f32⟩
  | .hbm, ⟨35, _⟩ => ⟨S8x1x2048x64, .f32⟩
  | .hbm, ⟨36, _⟩ => ⟨S8x2048x64, .f32⟩
  | .hbm, ⟨37, _⟩ => ⟨S8x1x2048x64, .f32⟩
  | .hbm, ⟨38, _⟩ => ⟨S8x2048x64, .f32⟩
  | .hbm, ⟨39, _⟩ => ⟨S8x2048x512, .f32⟩
  | .hbm, ⟨40, _⟩ => ⟨S8x2048x512, .bf16⟩
  | .hbm, ⟨41, _⟩ => ⟨S8x1x512x64, .f32⟩
  | .hbm, ⟨42, _⟩ => ⟨S8x512x64, .f32⟩
  | .hbm, ⟨43, _⟩ => ⟨S_, .f32⟩
  | .hbm, ⟨44, _⟩ => ⟨S8x512x64, .f32⟩
  | .hbm, ⟨45, _⟩ => ⟨S8x1x512x64, .f32⟩
  | .hbm, ⟨46, _⟩ => ⟨S8x512x64, .f32⟩
  | .hbm, ⟨47, _⟩ => ⟨S8x1x512x64, .f32⟩
  | .hbm, ⟨48, _⟩ => ⟨S8x512x64, .f32⟩
  | .hbm, ⟨49, _⟩ => ⟨S8x1x512x64, .f32⟩
  | .hbm, ⟨50, _⟩ => ⟨S8x512x64, .f32⟩
  | .hbm, ⟨51, _⟩ => ⟨S8x1x512x64, .f32⟩
  | .hbm, ⟨52, _⟩ => ⟨S8x512x64, .f32⟩
  | .hbm, ⟨53, _⟩ => ⟨S8x512x512, .f32⟩
  | .hbm, ⟨54, _⟩ => ⟨S8x512x512, .bf16⟩
  | .hbm, ⟨55, _⟩ => ⟨S8x1x512x64, .f32⟩
  | .hbm, ⟨56, _⟩ => ⟨S8x512x64, .f32⟩
  | .hbm, ⟨57, _⟩ => ⟨S_, .f32⟩
  | .hbm, ⟨58, _⟩ => ⟨S8x512x64, .f32⟩
  | .hbm, ⟨59, _⟩ => ⟨S_, .i32⟩
  | .hbm, ⟨60, _⟩ => ⟨S1, .i32⟩
  | .hbm, ⟨61, _⟩ => ⟨S_, .f32⟩
  | .hbm, ⟨62, _⟩ => ⟨S8x512, .f32⟩
  | .hbm, ⟨63, _⟩ => ⟨S8x512x64, .f32⟩
  | .hbm, ⟨64, _⟩ => ⟨S8x1x512x64, .f32⟩
  | .hbm, ⟨65, _⟩ => ⟨S8x512x64, .f32⟩
  | .hbm, ⟨66, _⟩ => ⟨S8x1x512x64, .f32⟩
  | .hbm, ⟨67, _⟩ => ⟨S8x512x64, .f32⟩
  | .hbm, ⟨68, _⟩ => ⟨S8x1x512x64, .f32⟩
  | .hbm, ⟨69, _⟩ => ⟨S8x512x64, .f32⟩
  | .hbm, ⟨70, _⟩ => ⟨S8x1x512x64, .f32⟩
  | .hbm, ⟨71, _⟩ => ⟨S8x512x64, .f32⟩
  | .hbm, ⟨72, _⟩ => ⟨S8x512x512, .f32⟩
  | .hbm, ⟨73, _⟩ => ⟨S8x512x512, .bf16⟩
  | .hbm, ⟨74, _⟩ => ⟨S8x2048x512, .bf16⟩
  | .local _ .vmem, ⟨0, _⟩ => ⟨S1x256x512, .f32⟩
  | .local _ .vmem, ⟨1, _⟩ => ⟨S1x256x512, .f32⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x256x512, .bf16⟩
  | .local _ .vmem, ⟨11, _⟩ => ⟨S1x256x512, .bf16⟩
  | _, _ => ⟨S8x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_c : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_3 : Ref sig .tc := ⟨.hbm, 57, rfl⟩
abbrev main_v47 : Ref sig .tc := ⟨.hbm, 58, rfl⟩
abbrev main_c_4 : Ref sig .tc := ⟨.hbm, 59, rfl⟩
abbrev main_v48 : Ref sig .tc := ⟨.hbm, 60, rfl⟩
abbrev main_cst_5 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "scale" => some (((1 / 8) * (Real.log 2)⁻¹ : ℝ) : EReal)
  | _ => none
-- ==== ReferenceIdeal.lean ====
abbrev S8x2048x8x64 : Shape := ⟨4, ![8, 2048, 8, 64]⟩
abbrev S8x2048x2x64 : Shape := ⟨4, ![8, 2048, 2, 64]⟩
abbrev S8x2x512x64 : Shape := ⟨4, ![8, 2, 512, 64]⟩
abbrev S8x512x2x64 : Shape := ⟨4, ![8, 512, 2, 64]⟩
abbrev S8x2560x2x64 : Shape := ⟨4, ![8, 2560, 2, 64]⟩
abbrev S8x2048x2x4x64 : Shape := ⟨5, ![8, 2048, 2, 4, 64]⟩
abbrev S_ : Shape := ⟨0, ![]⟩
abbrev S8x2x2560x2048x4 : Shape := ⟨5, ![8, 2, 2560, 2048, 4]⟩
abbrev S8x2x4x2048x2560 : Shape := ⟨5, ![8, 2, 4, 2048, 2560]⟩
abbrev S8x2x4x2048 : Shape := ⟨4, ![8, 2, 4, 2048]⟩
abbrev S8x2x4x2048x1 : Shape := ⟨5, ![8, 2, 4, 2048, 1]⟩
abbrev S8x2x64x4x2048 : Shape := ⟨5, ![8, 2, 64, 4, 2048]⟩
abbrev S8x2048x512 : Shape := ⟨3, ![8, 2048, 512]⟩

abbrev nBuf : Space → Nat
  | .hbm => 33
  | .vmem => 0
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x2x64, .f32⟩
  | .hbm, ⟨2, _⟩ => ⟨S8x2048x2x64, .f32⟩
  | .hbm, ⟨3, _⟩ => ⟨S8x2x512x64, .f32⟩
  | .hbm, ⟨4, _⟩ => ⟨S8x2x512x64, .f32⟩
  | .hbm, ⟨5, _⟩ => ⟨S8x512x2x64, .f32⟩
  | .hbm, ⟨6, _⟩ => ⟨S8x2560x2x64, .f32⟩
  | .hbm, ⟨7, _⟩ => ⟨S8x512x2x64, .f32⟩
  | .hbm, ⟨8, _⟩ => ⟨S8x2560x2x64, .f32⟩
  | .hbm, ⟨9, _⟩ => ⟨S8x2048x2x4x64, .f32⟩
  | .hbm, ⟨10, _⟩ => ⟨S_, .f32⟩
  | .hbm, ⟨11, _⟩ => ⟨S8x2048x2x4x64, .f32⟩
  | .hbm, ⟨12, _⟩ => ⟨S8x2048x2x4x64, .f32⟩
  | .hbm, ⟨13, _⟩ => ⟨S8x2x2560x2048x4, .f32⟩
  | .hbm, ⟨14, _⟩ => ⟨S8x2x4x2048x2560, .f32⟩
  | .hbm, ⟨15, _⟩ => ⟨S_, .f32⟩
  | .hbm, ⟨16, _⟩ => ⟨S8x2x4x2048, .f32⟩
  | .hbm, ⟨17, _⟩ => ⟨S_, .f32⟩
  | .hbm, ⟨18, _⟩ => ⟨S8x2x4x2048, .f32⟩
  | .hbm, ⟨19, _⟩ => ⟨S8x2x4x2048, .f32⟩
  | .hbm, ⟨20, _⟩ => ⟨S8x2x4x2048x1, .f32⟩
  | .hbm, ⟨21, _⟩ => ⟨S8x2x4x2048x2560, .f32⟩
  | .hbm, ⟨22, _⟩ => ⟨S8x2x4x2048x2560, .f32⟩
  | .hbm, ⟨23, _⟩ => ⟨S8x2x4x2048x2560, .f32⟩
  | .hbm, ⟨24, _⟩ => ⟨S_, .f32⟩
  | .hbm, ⟨25, _⟩ => ⟨S8x2x4x2048, .f32⟩
  | .hbm, ⟨26, _⟩ => ⟨S8x2x4x2048x1, .f32⟩
  | .hbm, ⟨27, _⟩ => ⟨S8x2x4x2048x2560, .f32⟩
  | .hbm, ⟨28, _⟩ => ⟨S8x2x4x2048x2560, .f32⟩
  | .hbm, ⟨29, _⟩ => ⟨S8x2x64x4x2048, .f32⟩
  | .hbm, ⟨30, _⟩ => ⟨S8x2048x2x4x64, .f32⟩
  | .hbm, ⟨31, _⟩ => ⟨S8x2048x512, .f32⟩
  | .hbm, ⟨32, _⟩ => ⟨S8x2048x512, .bf16⟩
  | _, _ => ⟨S8x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== PostEven.lean ====
abbrev S8x2048x1024 : Shape := ⟨3, ![8, 2048, 1024]⟩
abbrev S8x2048x512 : Shape := ⟨3, ![8, 2048, 512]⟩
abbrev S16x6144 : Shape := ⟨2, ![16, 6144]⟩
abbrev S512 : Shape := ⟨1, ![512]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S16x6x1x1024 : Shape := ⟨4, ![16, 6, 1, 1024]⟩
abbrev S1x512 : Shape := ⟨2, ![1, 512]⟩
abbrev S1x1024 : Shape := ⟨2, ![1, 1024]⟩
abbrev S1x512x1024 : Shape := ⟨3, ![1, 512, 1024]⟩
abbrev S1x512x512 : Shape := ⟨3, ![1, 512, 512]⟩
abbrev S1x6x1x1024 : Shape := ⟨4, ![1, 6, 1, 1024]⟩
abbrev S1x256x512 : Shape := ⟨3, ![1, 256, 512]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S1x128 : Shape := ⟨2, ![1, 128]⟩
abbrev S512x1024 : Shape := ⟨2, ![512, 1024]⟩
abbrev S256x1024 : Shape := ⟨2, ![256, 1024]⟩
abbrev S1x256x1024 : Shape := ⟨3, ![1, 256, 1024]⟩
abbrev S1x1x1x1024 : Shape := ⟨4, ![1, 1, 1, 1024]⟩

abbrev nBuf : Space → Nat
  | .hbm => 23
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S8x2048x512, .f32⟩
  | .hbm, ⟨4, _⟩ => ⟨S8x2048x512, .f32⟩
  | .hbm, ⟨5, _⟩ => ⟨S16x6144, .f32⟩
  | .hbm, ⟨6, _⟩ => ⟨S512, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024x1024, .f32⟩
  | .hbm, ⟨11, _⟩ => ⟨S1024x4096, .f32⟩
  | .hbm, ⟨12, _⟩ => ⟨S4096x1024, .f32⟩
  | .hbm, ⟨13, _⟩ => ⟨S16x6x1x1024, .f32⟩
  | .hbm, ⟨14, _⟩ => ⟨S1x512, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1024x1024, .bf16⟩
  | .hbm, ⟨19, _⟩ => ⟨S1024x4096, .bf16⟩
  | .hbm, ⟨20, _⟩ => ⟨S4096x1024, .bf16⟩
  | .hbm, ⟨21, _⟩ => ⟨S8x2048x512, .bf16⟩
  | .hbm, ⟨22, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x6x1x1024, .f32⟩
  | .local _ .vmem, ⟨11, _⟩ => ⟨S1x6x1x1024, .f32⟩
  | .local _ .vmem, ⟨12, _⟩ => ⟨S1x512, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1024x1024, .bf16⟩
  | .local _ .vmem, ⟨17, _⟩ => ⟨S1024x4096, .bf16⟩
  | .local _ .vmem, ⟨18, _⟩ => ⟨S4096x1024, .bf16⟩
  | .local _ .vmem, ⟨19, _⟩ => ⟨S1x512x1024, .f32⟩
  | .local _ .vmem, ⟨20, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c1_i32_0 : BitVec 32 := 1#32
  let v1 : BitVec 32 := Scalar.addi c1_i32_0 v0
  let c0_i32 : BitVec 32 := 0#32
  let c0_i32_1 : BitVec 32 := 0#32
  let c0_i32_2 : BitVec 32 := 0#32
  let c0_i32_3 : BitVec 32 := 0#32
  ![v1.toNat, c0_i32.toNat, c0_i32_1.toNat, c0_i32_2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x6x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== RefEvenIdeal.lean ====
abbrev S8x2048x1024 : Shape := ⟨3, ![8, 2048, 1024]⟩
abbrev S8x2048x512 : Shape := ⟨3, ![8, 2048, 512]⟩
abbrev S16x6144 : Shape := ⟨2, ![16, 6144]⟩
abbrev S512 : Shape := ⟨1, ![512]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S8x2048x4x128 : Shape := ⟨4, ![8, 2048, 4, 128]⟩
abbrev S4x128 : Shape := ⟨2, ![4, 128]⟩
abbrev S_ : Shape := ⟨0, ![]⟩
abbrev S8x2048x4 : Shape := ⟨3, ![8, 2048, 4]⟩
abbrev S8x2048x4x1 : Shape := ⟨4, ![8, 2048, 4, 1]⟩
abbrev S1x1x4x128 : Shape := ⟨4, ![1, 1, 4, 128]⟩
abbrev S8x6144 : Shape := ⟨2, ![8, 6144]⟩
abbrev S8x1x6144 : Shape := ⟨3, ![8, 1, 6144]⟩
abbrev S8x1x1024 : Shape := ⟨3, ![8, 1, 1024]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4096 : Shape := ⟨3, ![8, 2048, 4096]⟩

abbrev nBuf : Space → Nat
  | .hbm => 119
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S8x2048x512, .f32⟩
  | .hbm, ⟨4, _⟩ => ⟨S8x2048x512, .f32⟩
  | .hbm, ⟨5, _⟩ => ⟨S16x6144, .f32⟩
  | .hbm, ⟨6, _⟩ => ⟨S512, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024x1024, .f32⟩
  | .hbm, ⟨11, _⟩ => ⟨S1024x4096, .f32⟩
  | .hbm, ⟨12, _⟩ => ⟨S4096x1024, .f32⟩
  | .hbm, ⟨13, _⟩ => ⟨S8x2048x512, .f32⟩
  | .hbm, ⟨14, _⟩ => ⟨S8x2048x4x128, .f32⟩
  | .hbm, ⟨15, _⟩ => ⟨S4x128, .f32⟩
  | .hbm, ⟨16, _⟩ => ⟨S8x2048x4x128, .f32⟩
  | .hbm, ⟨17, _⟩ => ⟨S_, .f32⟩
  | .hbm, ⟨18, _⟩ => ⟨S8x2048x4, .f32⟩
  | .hbm, ⟨19, _⟩ => ⟨S8x2048x4x1, .f32⟩
  | .hbm, ⟨20, _⟩ => ⟨S_, .f32⟩
  | .hbm, ⟨21, _⟩ => ⟨S8x2048x4x1, .f32⟩
  | .hbm, ⟨22, _⟩ => ⟨S8x2048x4x1, .f32⟩
  | .hbm, ⟨23, _⟩ => ⟨S_, .f32⟩
  | .hbm, ⟨24, _⟩ => ⟨S8x2048x4x1, .f32⟩
  | .hbm, ⟨25, _⟩ => ⟨S8x2048x4x1, .f32⟩
  | .hbm, ⟨26, _⟩ => ⟨S8x2048x4x1, .f32⟩
  | .hbm, ⟨27, _⟩ => ⟨S8x2048x4x128, .f32⟩
  | .hbm, ⟨28, _⟩ => ⟨S8x2048x4x128, .f32⟩
  | .hbm, ⟨29, _⟩ => ⟨S1x1x4x128, .f32⟩
  | .hbm, ⟨30, _⟩ => ⟨S8x2048x4x128, .f32⟩
  | .hbm, ⟨31, _⟩ => ⟨S8x2048x4x128, .f32⟩
  | .hbm, ⟨32, _⟩ => ⟨S8x2048x512, .f32⟩
  | .hbm, ⟨33, _⟩ => ⟨S8x2048x512, .f32⟩
  | .hbm, ⟨34, _⟩ => ⟨S8x2048x512, .f32⟩
  | .hbm, ⟨35, _⟩ => ⟨S_, .f32⟩
  | .hbm, ⟨36, _⟩ => ⟨S8x2048x512, .f32⟩
  | .hbm, ⟨37, _⟩ => ⟨S8x2048x512, .f32⟩
  | .hbm, ⟨38, _⟩ => ⟨S_, .f32⟩
  | .hbm, ⟨39, _⟩ => ⟨S8x2048x512, .f32⟩
  | .hbm, ⟨40, _⟩ => ⟨S8x2048x512, .f32⟩
  | .hbm, ⟨41, _⟩ => ⟨S8x2048x512, .f32⟩
  | .hbm, ⟨42, _⟩ => ⟨S8x2048x1024, .f32⟩
  | .hbm, ⟨43, _⟩ => ⟨S8x6144, .f32⟩
  | .hbm, ⟨44, _⟩ => ⟨S8x1x6144, .f32⟩
  | .hbm, ⟨45, _⟩ => ⟨S8x1x1024, .f32⟩
  | .hbm, ⟨46, _⟩ => ⟨S8x1x1024, .f32⟩
  | .hbm, ⟨47, _⟩ => ⟨S8x1x1024, .f32⟩
  | .hbm, ⟨48, _⟩ => ⟨S8x1x1024, .f32⟩
  | .hbm, ⟨49, _⟩ => ⟨S8x1x1024, .f32⟩
  | .hbm, ⟨50, _⟩ => ⟨S8x1x1024, .f32⟩
  | .hbm, ⟨51, _⟩ => ⟨S8x2048x1024, .f32⟩
  | .hbm, ⟨52, _⟩ => ⟨S8x2048x1024, .f32⟩
  | .hbm, ⟨53, _⟩ => ⟨S_, .f32⟩
  | .hbm, ⟨54, _⟩ => ⟨S8x2048, .f32⟩
  | .hbm, ⟨55, _⟩ => ⟨S8x2048x1, .f32⟩
  | .hbm, ⟨56, _⟩ => ⟨S_, .f32⟩
  | .hbm, ⟨57, _⟩ => ⟨S8x2048x1, .f32⟩
  | .hbm, ⟨58, _⟩ => ⟨S8x2048x1, .f32⟩
  | .hbm, ⟨59, _⟩ => ⟨S_, .f32⟩
  | .hbm, ⟨60, _⟩ => ⟨S8x2048x1, .f32⟩
  | .hbm, ⟨61, _⟩ => ⟨S8x2048x1, .f32⟩
  | .hbm, ⟨62, _⟩ => ⟨S8x2048x1, .f32⟩
  | .hbm, ⟨63, _⟩ => ⟨S8x2048x1024, .f32⟩
  | .hbm, ⟨64, _⟩ => ⟨S8x2048x1024, .f32⟩
  | .hbm, ⟨65, _⟩ => ⟨S1x1x1024, .f32⟩
  | .hbm, ⟨66, _⟩ => ⟨S8x2048x1024, .f32⟩
  | .hbm, ⟨67, _⟩ => ⟨S8x2048x1024, .f32⟩
  | .hbm, ⟨68, _⟩ => ⟨S8x2048x1024, .f32⟩
  | .hbm, ⟨69, _⟩ => ⟨S8x2048x1024, .f32⟩
  | .hbm, ⟨70, _⟩ => ⟨S8x2048x1024, .f32⟩
  | .hbm, ⟨71, _⟩ => ⟨S8x2048x1024, .f32⟩
  | .hbm, ⟨72, _⟩ => ⟨S_, .f32⟩
  | .hbm, ⟨73, _⟩ => ⟨S8x2048, .f32⟩
  | .hbm, ⟨74, _⟩ => ⟨S8x2048x1, .f32⟩
  | .hbm, ⟨75, _⟩ => ⟨S_, .f32⟩
  | .hbm, ⟨76, _⟩ => ⟨S8x2048x1, .f32⟩
  | .hbm, ⟨77, _⟩ => ⟨S8x2048x1, .f32⟩
  | .hbm, ⟨78, _⟩ => ⟨S_, .f32⟩
  | .hbm, ⟨79, _⟩ => ⟨S8x2048x1, .f32⟩
  | .hbm, ⟨80, _⟩ => ⟨S8x2048x1, .f32⟩
  | .hbm, ⟨81, _⟩ => ⟨S8x2048x1, .f32⟩
  | .hbm, ⟨82, _⟩ => ⟨S8x2048x1024, .f32⟩
  | .hbm, ⟨83, _⟩ => ⟨S8x2048x1024, .f32⟩
  | .hbm, ⟨84, _⟩ => ⟨S1x1x1024, .f32⟩
  | .hbm, ⟨85, _⟩ => ⟨S8x2048x1024, .f32⟩
  | .hbm, ⟨86, _⟩ => ⟨S8x2048x1024, .f32⟩
  | .hbm, ⟨87, _⟩ => ⟨S_, .f32⟩
  | .hbm, ⟨88, _⟩ => ⟨S8x1x1024, .f32⟩
  | .hbm, ⟨89, _⟩ => ⟨S8x1x1024, .f32⟩
  | .hbm, ⟨90, _⟩ => ⟨S8x2048x1024, .f32⟩
  | .hbm, ⟨91, _⟩ => ⟨S8x2048x1024, .f32⟩
  | .hbm, ⟨92, _⟩ => ⟨S8x2048x1024, .f32⟩
  | .hbm, ⟨93, _⟩ => ⟨S8x2048x1024, .f32⟩
  | .hbm, ⟨94, _⟩ => ⟨S8x2048x4096, .f32⟩
  | .hbm, ⟨95, _⟩ => ⟨S_, .f32⟩
  | .hbm, ⟨96, _⟩ => ⟨S8x2048x4096, .f32⟩
  | .hbm, ⟨97, _⟩ => ⟨S8x2048x4096, .f32⟩
  | .hbm, ⟨98, _⟩ => ⟨S8x2048x4096, .f32⟩
  | .hbm, ⟨99, _⟩ => ⟨S8x2048x1024, .f32⟩
  | .hbm, ⟨100, _⟩ => ⟨S8x2048x1024, .f32⟩
  | .hbm, ⟨101, _⟩ => ⟨S_, .f32⟩
  | .hbm, ⟨102, _⟩ => ⟨S8x2048, .f32⟩
  | .hbm, ⟨103, _⟩ => ⟨S8x2048x1, .f32⟩
  | .hbm, ⟨104, _⟩ => ⟨S_, .f32⟩
  | .hbm, ⟨105, _⟩ => ⟨S8x2048x1, .f32⟩
  | .hbm, ⟨106, _⟩ => ⟨S8x2048x1, .f32⟩
  | .hbm, ⟨107, _⟩ => ⟨S_, .f32⟩
  | .hbm, ⟨108, _⟩ => ⟨S8x2048x1, .f32⟩
  | .hbm, ⟨109, _⟩ => ⟨S8x2048x1, .f32⟩
  | .hbm, ⟨110, _⟩ => ⟨S8x2048x1, .f32⟩
  | .hbm, ⟨111, _⟩ => ⟨S8x2048x1024, .f32⟩
  | .hbm, ⟨112, _⟩ => ⟨S8x2048x1024, .f32⟩
  | .hbm, ⟨113, _⟩ => ⟨S1x1x1024, .f32⟩
  | .hbm, ⟨114, _⟩ => ⟨S8x2048x1024, .f32⟩
  | .hbm, ⟨115, _⟩ => ⟨S8x2048x1024, .f32⟩
  | .hbm, ⟨116, _⟩ => ⟨S8x2048x1024, .f32⟩
  | .hbm, ⟨117, _⟩ => ⟨S8x2048x1024, .f32⟩
  | .hbm, ⟨118, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_cst_5 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_7 : Ref sig .tc := ⟨.hbm, 72, rfl⟩
abbrev main_v51 : Ref sig .tc := ⟨.hbm, 73, rfl⟩
abbrev main_v52 : Ref sig .tc := ⟨.hbm, 74, rfl⟩
abbrev main_cst_8 : Ref sig .tc := ⟨.hbm, 75, rfl⟩
abbrev main_v53 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_10 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_call0_cst : Ref sig .tc := ⟨.hbm, 95, rfl⟩
abbrev main_call0_v0 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_11 : Ref sig .tc := ⟨.hbm, 101, rfl⟩
abbrev main_v74 : Ref sig .tc := ⟨.hbm, 102, rfl⟩
abbrev main_v75 : Ref sig .tc := ⟨.hbm, 103, rfl⟩
abbrev main_cst_12 : Ref sig .tc := ⟨.hbm, 104, rfl⟩
abbrev main_v76 : Ref sig .tc := ⟨.hbm, 105, rfl⟩
abbrev main_v77 : Ref sig .tc := ⟨.hbm, 106, rfl⟩
abbrev main_cst_13 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩

abbrev nD : Nat := 1
abbrev τ : Topo := Topo.v7x

variable {F : FTy → Type} [FloatOps F]
-- ==== PostOdd.lean ====
abbrev S8x2048x1024 : Shape := ⟨3, ![8, 2048, 1024]⟩
abbrev S8x2048x512 : Shape := ⟨3, ![8, 2048, 512]⟩
abbrev S16x6144 : Shape := ⟨2, ![16, 6144]⟩
abbrev S512 : Shape := ⟨1, ![512]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S16x6x1x1024 : Shape := ⟨4, ![16, 6, 1, 1024]⟩
abbrev S1x512 : Shape := ⟨2, ![1, 512]⟩
abbrev S1x1024 : Shape := ⟨2, ![1, 1024]⟩
abbrev S1x512x1024 : Shape := ⟨3, ![1, 512, 1024]⟩
abbrev S1x512x512 : Shape := ⟨3, ![1, 512, 512]⟩
abbrev S1x6x1x1024 : Shape := ⟨4, ![1, 6, 1, 1024]⟩
abbrev S1x256x512 : Shape := ⟨3, ![1, 256, 512]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S1x128 : Shape := ⟨2, ![1, 128]⟩
abbrev S512x1024 : Shape := ⟨2, ![512, 1024]⟩
abbrev S256x1024 : Shape := ⟨2, ![256, 1024]⟩
abbrev S1x256x1024 : Shape := ⟨3, ![1, 256, 1024]⟩
abbrev S1x1x1x1024 : Shape := ⟨4, ![1, 1, 1, 1024]⟩

abbrev nBuf : Space → Nat
  | .hbm => 23
  | .vmem => 23
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S8x2048x512, .f32⟩
  | .hbm, ⟨4, _⟩ => ⟨S8x2048x512, .f32⟩
  | .hbm, ⟨5, _⟩ => ⟨S8x2048x512, .f32⟩
  | .hbm, ⟨6, _⟩ => ⟨S16x6144, .f32⟩
  | .hbm, ⟨7, _⟩ => ⟨S512, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024x1024, .f32⟩
  | .hbm, ⟨12, _⟩ => ⟨S1024x4096, .f32⟩
  | .hbm, ⟨13, _⟩ => ⟨S4096x1024, .f32⟩
  | .hbm, ⟨14, _⟩ => ⟨S16x6x1x1024, .f32⟩
  | .hbm, ⟨15, _⟩ => ⟨S1x512, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1024x1024, .bf16⟩
  | .hbm, ⟨20, _⟩ => ⟨S1024x4096, .bf16⟩
  | .hbm, ⟨21, _⟩ => ⟨S4096x1024, .bf16⟩
  | .hbm, ⟨22, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x6x1x1024, .f32⟩
  | .local _ .vmem, ⟨13, _⟩ => ⟨S1x6x1x1024, .f32⟩
  | .local _ .vmem, ⟨14, _⟩ => ⟨S1x512, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1024x1024, .bf16⟩
  | .local _ .vmem, ⟨19, _⟩ => ⟨S1024x4096, .bf16⟩
  | .local _ .vmem, ⟨20, _⟩ => ⟨S4096x1024, .bf16⟩
  | .local _ .vmem, ⟨21, _⟩ => ⟨S1x512x1024, .f32⟩
  | .local _ .vmem, ⟨22, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c1_i32_0 : BitVec 32 := 1#32
  let v1 : BitVec 32 := Scalar.addi c1_i32_0 v0
  let c0_i32 : BitVec 32 := 0#32
  let c0_i32_1 : BitVec 32 := 0#32
  let c0_i32_2 : BitVec 32 := 0#32
  let c0_i32_3 : BitVec 32 := 0#32
  ![v1.toNat, c0_i32.toNat, c0_i32_1.toNat, c0_i32_2.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x6x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4096x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== RefOddIdeal.lean ====
abbrev S8x2048x1024 : Shape := ⟨3, ![8, 2048, 1024]⟩
abbrev S8x2048x512 : Shape := ⟨3, ![8, 2048, 512]⟩
abbrev S16x6144 : Shape := ⟨2, ![16, 6144]⟩
abbrev S512 : Shape := ⟨1, ![512]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩
abbrev S8x2048x4x128 : Shape := ⟨4, ![8, 2048, 4, 128]⟩
abbrev S4x128 : Shape := ⟨2, ![4, 128]⟩
abbrev S8x2048x4 : Shape := ⟨3, ![8, 2048, 4]⟩
abbrev S8x2048x4x1 : Shape := ⟨4, ![8, 2048, 4, 1]⟩
abbrev S1x1x4x128 : Shape := ⟨4, ![1, 1, 4, 128]⟩
abbrev S8x6144 : Shape := ⟨2, ![8, 6144]⟩
abbrev S8x1x6144 : Shape := ⟨3, ![8, 1, 6144]⟩
abbrev S8x1x1024 : Shape := ⟨3, ![8, 1, 1024]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4096 : Shape := ⟨3, ![8, 2048, 4096]⟩

abbrev nBuf : Space → Nat
  | .hbm => 139
  | .vmem => 0
  | .smem => 0
  | _ => 0

abbrev hbmTy0_0 (i : Nat) : BufTy := match i % 128 with
  | 0 => ⟨S8x2048x1024, .f32⟩
  | 1 => ⟨S8x2048x512, .f32⟩
  | 2 => ⟨S8x2048x512, .f32⟩
  | 3 => ⟨S8x2048x512, .f32⟩
  | 4 => ⟨S8x2048x512, .f32⟩
  | 5 => ⟨S8x2048x512, .f32⟩
  | 6 => ⟨S16x6144, .f32⟩
  | 7 => ⟨S512, .f32⟩
  | 8 => ⟨S1024, .f32⟩
  | 9 => ⟨S1024, .f32⟩
  | 10 => ⟨S1024, .f32⟩
  | 11 => ⟨S1024x1024, .f32⟩
  | 12 => ⟨S1024x4096, .f32⟩
  | 13 => ⟨S4096x1024, .f32⟩
  | 14 => ⟨S8x2048x512, .f32⟩
  | 15 => ⟨S8x2048x512, .f32⟩
  | 16 => ⟨S_, .f32⟩
  | 17 => ⟨S8x2048x512, .f32⟩
  | 18 => ⟨S8x2048x512, .f32⟩
  | 19 => ⟨S8x2048x512, .f32⟩
  | 20 => ⟨S_, .f32⟩
  | 21 => ⟨S8x2048x512, .f32⟩
  | 22 => ⟨S8x2048x512, .f32⟩
  | 23 => ⟨S8x2048x512, .f32⟩
  | 24 => ⟨S_, .f32⟩
  | 25 => ⟨S8x2048x512, .f32⟩
  | 26 => ⟨S8x2048x512, .f32⟩
  | 27 => ⟨S_, .f32⟩
  | 28 => ⟨S8x2048x512, .f32⟩
  | 29 => ⟨S8x2048x512, .f32⟩
  | 30 => ⟨S8x2048x512, .f32⟩
  | 31 => ⟨S8x2048x512, .f32⟩
  | 32 => ⟨S8x2048x512, .f32⟩
  | 33 => ⟨S8x2048x4x128, .f32⟩
  | 34 => ⟨S4x128, .f32⟩
  | 35 => ⟨S8x2048x4x128, .f32⟩
  | 36 => ⟨S_, .f32⟩
  | 37 => ⟨S8x2048x4, .f32⟩
  | 38 => ⟨S8x2048x4x1, .f32⟩
  | 39 => ⟨S_, .f32⟩
  | 40 => ⟨S8x2048x4x1, .f32⟩
  | 41 => ⟨S8x2048x4x1, .f32⟩
  | 42 => ⟨S_, .f32⟩
  | 43 => ⟨S8x2048x4x1, .f32⟩
  | 44 => ⟨S8x2048x4x1, .f32⟩
  | 45 => ⟨S8x2048x4x1, .f32⟩
  | 46 => ⟨S8x2048x4x128, .f32⟩
  | 47 => ⟨S8x2048x4x128, .f32⟩
  | 48 => ⟨S1x1x4x128, .f32⟩
  | 49 => ⟨S8x2048x4x128, .f32⟩
  | 50 => ⟨S8x2048x4x128, .f32⟩
  | 51 => ⟨S8x2048x512, .f32⟩
  | 52 => ⟨S8x2048x512, .f32⟩
  | 53 => ⟨S8x2048x512, .f32⟩
  | 54 => ⟨S_, .f32⟩
  | 55 => ⟨S8x2048x512, .f32⟩
  | 56 => ⟨S8x2048x512, .f32⟩
  | 57 => ⟨S_, .f32⟩
  | 58 => ⟨S8x2048x512, .f32⟩
  | 59 => ⟨S8x2048x512, .f32⟩
  | 60 => ⟨S8x2048x512, .f32⟩
  | 61 => ⟨S8x2048x512, .f32⟩
  | 62 => ⟨S8x2048x1024, .f32⟩
  | 63 => ⟨S8x6144, .f32⟩
  | 64 => ⟨S8x1x6144, .f32⟩
  | 65 => ⟨S8x1x1024, .f32⟩
  | 66 => ⟨S8x1x1024, .f32⟩
  | 67 => ⟨S8x1x1024, .f32⟩
  | 68 => ⟨S8x1x1024, .f32⟩
  | 69 => ⟨S8x1x1024, .f32⟩
  | 70 => ⟨S8x1x1024, .f32⟩
  | 71 => ⟨S8x2048x1024, .f32⟩
  | 72 => ⟨S8x2048x1024, .f32⟩
  | 73 => ⟨S_, .f32⟩
  | 74 => ⟨S8x2048, .f32⟩
  | 75 => ⟨S8x2048x1, .f32⟩
  | 76 => ⟨S_, .f32⟩
  | 77 => ⟨S8x2048x1, .f32⟩
  | 78 => ⟨S8x2048x1, .f32⟩
  | 79 => ⟨S_, .f32⟩
  | 80 => ⟨S8x2048x1, .f32⟩
  | 81 => ⟨S8x2048x1, .f32⟩
  | 82 => ⟨S8x2048x1, .f32⟩
  | 83 => ⟨S8x2048x1024, .f32⟩
  | 84 => ⟨S8x2048x1024, .f32⟩
  | 85 => ⟨S1x1x1024, .f32⟩
  | 86 => ⟨S8x2048x1024, .f32⟩
  | 87 => ⟨S8x2048x1024, .f32⟩
  | 88 => ⟨S8x2048x1024, .f32⟩
  | 89 => ⟨S8x2048x1024, .f32⟩
  | 90 => ⟨S8x2048x1024, .f32⟩
  | 91 => ⟨S8x2048x1024, .f32⟩
  | 92 => ⟨S_, .f32⟩
  | 93 => ⟨S8x2048, .f32⟩
  | 94 => ⟨S8x2048x1, .f32⟩
  | 95 => ⟨S_, .f32⟩
  | 96 => ⟨S8x2048x1, .f32⟩
  | 97 => ⟨S8x2048x1, .f32⟩
  | 98 => ⟨S_, .f32⟩
  | 99 => ⟨S8x2048x1, .f32⟩
  | 100 => ⟨S8x2048x1, .f32⟩
  | 101 => ⟨S8x2048x1, .f32⟩
  | 102 => ⟨S8x2048x1024, .f32⟩
  | 103 => ⟨S8x2048x1024, .f32⟩
  | 104 => ⟨S1x1x1024, .f32⟩
  | 105 => ⟨S8x2048x1024, .f32⟩
  | 106 => ⟨S8x2048x1024, .f32⟩
  | 107 => ⟨S_, .f32⟩
  | 108 => ⟨S8x1x1024, .f32⟩
  | 109 => ⟨S8x1x1024, .f32⟩
  | 110 => ⟨S8x2048x1024, .f32⟩
  | 111 => ⟨S8x2048x1024, .f32⟩
  | 112 => ⟨S8x2048x1024, .f32⟩
  | 113 => ⟨S8x2048x1024, .f32⟩
  | 114 => ⟨S8x2048x4096, .f32⟩
  | 115 => ⟨S_, .f32⟩
  | 116 => ⟨S8x2048x4096, .f32⟩
  | 117 => ⟨S8x2048x4096, .f32⟩
  | 118 => ⟨S8x2048x4096, .f32⟩
  | 119 => ⟨S8x2048x1024, .f32⟩
  | 120 => ⟨S8x2048x1024, .f32⟩
  | 121 => ⟨S_, .f32⟩
  | 122 => ⟨S8x2048, .f32⟩
  | 123 => ⟨S8x2048x1, .f32⟩
  | 124 => ⟨S_, .f32⟩
  | 125 => ⟨S8x2048x1, .f32⟩
  | 126 => ⟨S8x2048x1, .f32⟩
  | 127 => ⟨S_, .f32⟩
  | _ => ⟨S8x2048x1024, .f32⟩

abbrev hbmTy0_1 (i : Nat) : BufTy := match i % 128 with
  | 0 => ⟨S8x2048x1, .f32⟩
  | 1 => ⟨S8x2048x1, .f32⟩
  | 2 => ⟨S8x2048x1, .f32⟩
  | 3 => ⟨S8x2048x1024, .f32⟩
  | 4 => ⟨S8x2048x1024, .f32⟩
  | 5 => ⟨S1x1x1024, .f32⟩
  | 6 => ⟨S8x2048x1024, .f32⟩
  | 7 => ⟨S8x2048x1024, .f32⟩
  | 8 => ⟨S8x2048x1024, .f32⟩
  | 9 => ⟨S8x2048x1024, .f32⟩
  | 10 => ⟨S8x2048x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_6 : Ref sig .tc := ⟨.hbm, 73, rfl⟩
abbrev main_v44 : Ref sig .tc := ⟨.hbm, 74, rfl⟩
abbrev main_v45 : Ref sig .tc := ⟨.hbm, 75, rfl⟩
abbrev main_cst_7 : Ref sig .tc := ⟨.hbm, 76, rfl⟩
abbrev main_v46 : Ref sig .tc := ⟨.hbm, 77, rfl⟩
abbrev main_v47 : Ref sig .tc := ⟨.hbm, 78, rfl⟩
abbrev main_cst_8 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_9 : Ref sig .tc := ⟨.hbm, 92, rfl⟩
abbrev main_v60 : Ref sig .tc := ⟨.hbm, 93, rfl⟩
abbrev main_v61 : Ref sig .tc := ⟨.hbm, 94, rfl⟩
abbrev main_cst_10 : Ref sig .tc := ⟨.hbm, 95, rfl⟩
abbrev main_v62 : Ref sig .tc := ⟨.hbm, 96, rfl⟩
abbrev main_v63 : Ref sig .tc := ⟨.hbm, 97, rfl⟩
abbrev main_cst_11 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_12 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_call1_cst : Ref sig .tc := ⟨.hbm, 115, rfl⟩
abbrev main_call1_v0 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_13 : Ref sig .tc := ⟨.hbm, 121, rfl⟩
abbrev main_v83 : Ref sig .tc := ⟨.hbm, 122, rfl⟩
abbrev main_v84 : Ref sig .tc := ⟨.hbm, 123, rfl⟩
abbrev main_cst_14 : Ref sig .tc := ⟨.hbm, 124, rfl⟩
abbrev main_v85 : Ref sig .tc := ⟨.hbm, 125, rfl⟩
abbrev main_v86 : Ref sig .tc := ⟨.hbm, 126, rfl⟩
abbrev main_cst_15 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩

abbrev nD : Nat := 1
abbrev τ : Topo := Topo.v7x

variable {F : FTy → Type} [FloatOps F]
-- ==== Proof.PostMath.lean ====
module

public import Idealize.ShloMosaic.Lib.Pointwise

@[expose] public section

set_option maxRecDepth 16384

noncomputable section

namespace Cert.Post

open Idealize.ShloMosaic

/-! ## One token of the second half of a layer -/

/-- A row of 1024 features over its root mean square. -/
def rms (f : Fin 1024 → EReal) (i : Fin 1024) : EReal :=
  f i * Ideal.rsqrt (Ideal.div (∑ k, f k * f k) (Ideal.ofBits .f32 0x44800000#32) + Ideal.ofBits .f32 0x358637BD#32)

/-- A group of 128 features over its root mean square. -/
def grp (f : Fin 128 → EReal) (i : Fin 128) : EReal :=
  f i * Ideal.rsqrt (Ideal.div (∑ k, f k * f k) (Ideal.ofBits .f32 0x43000000#32) + Ideal.ofBits .f32 0x358637BD#32)

/-- A resid: the row plus the gate times the normalised, weighted branch. -/
def resid (x g w y : Fin 1024 → EReal) (i : Fin 1024) : EReal := x i + g i * (rms y i * w i)

/-- The modulated row that goes into the feed-forward part. -/
def modulated (x w s b : Fin 1024 → EReal) (i : Fin 1024) : EReal :=
  rms x i * w i * (Ideal.ofBits .f32 0x3F800000#32 + s i) + b i

/-- One hidden feature: the square of the positive part of a product. -/
def hid (h : Fin 1024 → EReal) (U : Fin 1024 → EReal) : EReal :=
  max (∑ k, h k * U k) 0 * max (∑ k, h k * U k) 0

/-- The part of the feed-forward sum that 1024 hidden features give. -/
def chunk (h : Fin 1024 → EReal) (U : Fin 1024 → Fin 1024 → EReal) (D : Fin 1024 → Fin 1024 → EReal) (i : Fin 1024) : EReal :=
  ∑ j, hid h (fun k => U k j) * D j i

/-- The feed-forward part: 4096 hidden features. -/
def ffn (h : Fin 1024 → EReal) (U : Fin 1024 → Fin 4096 → EReal) (D : Fin 4096 → Fin 1024 → EReal) (i : Fin 1024) : EReal :=
  ∑ j, hid h (fun k => U k j) * D j i

/-- The layer's second half: the branch `y` is added, then the feed-forward part of the result. -/
def tail (x y g w s b w2 g2 w3 : Fin 1024 → EReal) (U : Fin 1024 → Fin 4096 → EReal) (D : Fin 4096 → Fin 1024 → EReal) : Fin 1024 → EReal :=
  resid (resid x g w y) g2 w3 (ffn (modulated (resid x g w y) w2 s b) U D)

/-- The normalised, weighted heads: four groups of 128 features. -/
def heads (f w : Fin 512 → EReal) (k : Fin 512) : EReal :=
  grp (fun l => f ⟨k.val / 128 * 128 + l.val, by omega⟩) ⟨k.val % 128, by omega⟩ * w k

/-- The branch: two halves of 512 features against their halves of the weights. -/
def branch (a n : Fin 512 → EReal) (W : Fin 1024 → Fin 1024 → EReal) (i : Fin 1024) : EReal :=
  (∑ k : Fin 512, a k * W ⟨k.val, by omega⟩ i) + ∑ k : Fin 512, n k * W ⟨512 + k.val, by omega⟩ i

/-- A head's feature, from its group alone. -/
theorem heads_of (f w : Fin 512 → EReal) (k : Fin 512) (g : Fin 128 → EReal) (l : Fin 128) (c : EReal)
    (hg : ∀ j : Fin 128, g j = f ⟨k.val / 128 * 128 + j.val, by omega⟩) (hl : l.val = k.val % 128) (hc : c = w k) :
    grp g l * c = heads f w k := by
  rw [hc, show l = ⟨k.val % 128, by omega⟩ from Fin.ext hl, show g = _ from funext hg]
  rfl

/-- The recurrence's output, gated by the smooth rectifier in its hyperbolic form. -/
def gelu (g h : EReal) : EReal :=
  g * (Ideal.ofBits .f32 0x3F000000#32 * (Ideal.ofBits .f32 0x3F800000#32
    + Ideal.tanh (Ideal.ofBits .f32 0x3F4C422A#32 * (g + Ideal.ofBits .f32 0x3D372713#32 * (g * (g * g)))))) * h

/-- A feature picked out of the four groups. -/
def pick (t0 t1 t2 t3 : Fin 128 → EReal) (k : Fin 512) : EReal :=
  if h : k.val < 128 then t0 ⟨k.val, h⟩
  else if h : k.val - 128 < 128 then t1 ⟨k.val - 128, h⟩
  else if h : k.val - 128 - 128 < 128 then t2 ⟨k.val - 128 - 128, h⟩
  else t3 ⟨k.val - 128 - 128 - 128, by omega⟩

/-- The four groups side by side are the heads. -/
theorem pick_eq (f w : Fin 512 → EReal) (t0 t1 t2 t3 : Fin 128 → EReal)
    (h0 : ∀ l : Fin 128, t0 l = grp (fun j => f ⟨j.val, by omega⟩) l * w ⟨l.val, by omega⟩)
    (h1 : ∀ l : Fin 128, t1 l = grp (fun j => f ⟨128 + j.val, by omega⟩) l * w ⟨128 + l.val, by omega⟩)
    (h2 : ∀ l : Fin 128, t2 l = grp (fun j => f ⟨256 + j.val, by omega⟩) l * w ⟨256 + l.val, by omega⟩)
    (h3 : ∀ l : Fin 128, t3 l = grp (fun j => f ⟨384 + j.val, by omega⟩) l * w ⟨384 + l.val, by omega⟩) (k : Fin 512) :
    pick t0 t1 t2 t3 k = heads f w k := by
  unfold pick
  split_ifs with a b c
  · rw [h0]
    exact heads_of _ _ _ _ _ _ (fun j => congrArg f (Fin.ext (by dsimp only; omega))) (by dsimp only; omega) (congrArg w (Fin.ext (by dsimp only)))
  · rw [h1]
    exact heads_of _ _ _ _ _ _ (fun j => congrArg f (Fin.ext (by dsimp only; omega))) (by dsimp only; omega) (congrArg w (Fin.ext (by dsimp only; omega)))
  · rw [h2]
    exact heads_of _ _ _ _ _ _ (fun j => congrArg f (Fin.ext (by dsimp only; omega))) (by dsimp only; omega) (congrArg w (Fin.ext (by dsimp only; omega)))
  · rw [h3]
    exact heads_of _ _ _ _ _ _ (fun j => congrArg f (Fin.ext (by dsimp only; omega))) (by dsimp only; omega) (congrArg w (Fin.ext (by dsimp only; omega)))

/-- A sum over 4096 hidden features is four sums over 1024. -/
theorem sum_four (f : Fin 4096 → EReal) :
    ∑ j, f j = (∑ j : Fin 1024, f ⟨j.val, by omega⟩) + (∑ j : Fin 1024, f ⟨1024 + j.val, by omega⟩)
      + (∑ j : Fin 1024, f ⟨2048 + j.val, by omega⟩) + ∑ j : Fin 1024, f ⟨3072 + j.val, by omega⟩ := by
  rw [show ∑ j, f j = (∑ j : Fin 3072, f ⟨j.val, by omega⟩) + ∑ j : Fin 1024, f ⟨3072 + j.val, by omega⟩ from
      Fin.sum_univ_add (a := 3072) (b := 1024) f,
    show ∑ j : Fin 3072, f ⟨j.val, by omega⟩ = (∑ j : Fin 2048, f ⟨j.val, by omega⟩) + ∑ j : Fin 1024, f ⟨2048 + j.val, by omega⟩ from
      Fin.sum_univ_add (a := 2048) (b := 1024) fun j : Fin 3072 => f ⟨j.val, by omega⟩,
    show ∑ j : Fin 2048, f ⟨j.val, by omega⟩ = (∑ j : Fin 1024, f ⟨j.val, by omega⟩) + ∑ j : Fin 1024, f ⟨1024 + j.val, by omega⟩ from
      Fin.sum_univ_add (a := 1024) (b := 1024) fun j : Fin 2048 => f ⟨j.val, by omega⟩]

/-- The feed-forward part in four chunks of 1024 hidden features. -/
theorem ffn_chunks (h : Fin 1024 → EReal) (U : Fin 1024 → Fin 4096 → EReal) (D : Fin 4096 → Fin 1024 → EReal) (i : Fin 1024) :
    ffn h U D i = chunk h (fun k j => U k ⟨j.val, by omega⟩) (fun j => D ⟨j.val, by omega⟩) i
      + chunk h (fun k j => U k ⟨1024 + j.val, by omega⟩) (fun j => D ⟨1024 + j.val, by omega⟩) i
      + chunk h (fun k j => U k ⟨2048 + j.val, by omega⟩) (fun j => D ⟨2048 + j.val, by omega⟩) i
      + chunk h (fun k j => U k ⟨3072 + j.val, by omega⟩) (fun j => D ⟨3072 + j.val, by omega⟩) i :=
  sum_four fun j => hid h (fun k => U k j) * D j i

end Cert.Post

end

end
-- ==== Proof.PostStages.lean ====
module

public import proofs.«01_k».proof.Proof.Gen.PostEvenIdeal.Value
public import proofs.«01_k».proof.Proof.PostMath
public import Idealize.ShloMosaic.Lib.Pointwise
public import Idealize.ShloMosaic.Lib.Pipeline.ValueKit

@[expose] public section

set_option maxRecDepth 16384

noncomputable section

namespace Cert.PostEvenIdeal.Post

open Cert.PostEvenIdeal Cert.PostEvenIdeal.Gen Idealize.ShloMosaic Idealize.ShloMosaic.TcCoe Idealize.SL.Sem
open Idealize.ShloMosaic.Pointwise
open Cert.Post

/-- The resid after the mixer's branch. -/
theorem residual_at (y : FVec Ideal S256x1024 .f32) (x : Vec Ideal S1x256x1024 .f32) (g : Vec Ideal S1x1x1x1024 .f32) (w : Vec Ideal S1x1024 .f32) (r : Fin 256) (i : Fin 1024) :
    k0_pay15 y x g w (ix2 r i) = resid (fun i => x (ix3 0 r i)) (fun i => g (ix4 0 0 0 i)) (fun i => w (ix2 0 i)) (fun i => y (ix2 r i)) i := by
  pointwise [k0_pay15, resid, rms]

/-- The resid, normalised and weighted. -/
theorem normed_at (y : FVec Ideal S256x1024 .f32) (x : Vec Ideal S1x256x1024 .f32) (g : Vec Ideal S1x1x1x1024 .f32) (w w2 : Vec Ideal S1x1024 .f32) (r : Fin 256) (i : Fin 1024) :
    k0_pay16 y x g w w2 (ix2 r i) = rms (fun i => k0_pay15 y x g w (ix2 r i)) i * w2 (ix2 0 i) := by
  pointwise [k0_pay16, rms]

/-- The factor of the modulation. -/
theorem factor_at (s : Vec Ideal S1x1x1x1024 .f32) (r : Fin 256) (i : Fin 1024) :
    k0_pay17 s (ix2 r i) = Ideal.ofBits .f32 0x3F800000#32 + s (ix4 0 0 0 i) := by
  pointwise [k0_pay17]

/-- The modulated row. -/
theorem modulated_at (n f : FVec Ideal S256x1024 .f32) (b : Vec Ideal S1x1x1x1024 .f32) (r : Fin 256) (i : Fin 1024) :
    k0_pay18 n f b (ix2 r i) = n (ix2 r i) * f (ix2 r i) + b (ix4 0 0 0 i) := by
  pointwise [k0_pay18]

/-- The first two chunks of the feed-forward part. -/
theorem chunks01_at (n f : FVec Ideal S256x1024 .f32) (b : Vec Ideal S1x1x1x1024 .f32) (U0 U1 D0 D1 : Vec Ideal S1024x1024 .bf16) (r : Fin 256) (i : Fin 1024) :
    k0_pay19 n f b U0 U1 D0 D1 (ix2 r i) = chunk (fun k => k0_pay18 n f b (ix2 r k)) (fun k j => U0 (ix2 k j)) (fun j i => D0 (ix2 j i)) i
      + chunk (fun k => k0_pay18 n f b (ix2 r k)) (fun k j => U1 (ix2 k j)) (fun j i => D1 (ix2 j i)) i := by
  pointwise [k0_pay19, chunk, hid]

/-- The products of the fourth chunk. -/
theorem product3_at (n f : FVec Ideal S256x1024 .f32) (b : Vec Ideal S1x1x1x1024 .f32) (U3 : Vec Ideal S1024x1024 .bf16) (r : Fin 256) (j : Fin 1024) :
    k0_pay20 n f b U3 (ix2 r j) = ∑ k, k0_pay18 n f b (ix2 r k) * U3 (ix2 k j) := by
  pointwise [k0_pay20]

/-- The positive part of the products of the third chunk. -/
theorem product2_at (n f : FVec Ideal S256x1024 .f32) (b : Vec Ideal S1x1x1x1024 .f32) (U2 : Vec Ideal S1024x1024 .bf16) (r : Fin 256) (j : Fin 1024) :
    k0_pay21 n f b U2 (ix2 r j) = max (∑ k, k0_pay18 n f b (ix2 r k) * U2 (ix2 k j)) 0 := by
  pointwise [k0_pay21]

/-- The feed-forward part of a row, from its first two chunks and the products of the others. -/
def sums (f01 p3 p2 : FVec Ideal S256x1024 .f32) (D2 D3 : Vec Ideal S1024x1024 .bf16) (r : Fin 256) (i : Fin 1024) : EReal :=
  f01 (ix2 r i) + (∑ j, p2 (ix2 r j) * p2 (ix2 r j) * D2 (ix2 j i))
    + ∑ j, max (p3 (ix2 r j)) 0 * max (p3 (ix2 r j)) 0 * D3 (ix2 j i)

/-- The stored row. -/
theorem stored_at (x1 f01 p3 p2 : FVec Ideal S256x1024 .f32) (D2 D3 : Vec Ideal S1024x1024 .bf16) (g2 : Vec Ideal S1x1x1x1024 .f32) (w3 : Vec Ideal S1x1024 .f32) (r : Fin 256) (i : Fin 1024) :
    k0_pay22 x1 f01 p3 p2 D2 D3 g2 w3 (ix3 0 r i) = resid (fun i => x1 (ix2 r i)) (fun i => g2 (ix4 0 0 0 i)) (fun i => w3 (ix2 0 i)) (sums f01 p3 p2 D2 D3 r) i := by
  pointwise [k0_pay22, resid, rms, sums]

/-- The two directions' outputs, added. -/
theorem both_at (f b : Vec Ideal S1x256x512 .f32) (r : Fin 256) (k : Fin 512) : k0_pay2 f b (ix2 r k) = f (ix3 0 r k) + b (ix3 0 r k) := by
  pointwise [k0_pay2]

theorem group0_at (f b : Vec Ideal S1x256x512 .f32) (g : Vec Ideal S1x128 .f32) (r : Fin 256) (l : Fin 128) :
    k0_pay3 f b g (ix2 r l) = grp (fun l => k0_pay2 f b (ix2 r ⟨l.val, by omega⟩)) l * g (ix2 0 l) := by
  pointwise [k0_pay3, grp]

theorem group1_at (f b : Vec Ideal S1x256x512 .f32) (g : Vec Ideal S1x128 .f32) (r : Fin 256) (l : Fin 128) :
    k0_pay4 f b g (ix2 r l) = grp (fun l => k0_pay2 f b (ix2 r ⟨128 + l.val, by omega⟩)) l * g (ix2 0 l) := by
  pointwise [k0_pay4, grp]

theorem third_at (f b : Vec Ideal S1x256x512 .f32) (r : Fin 256) (l : Fin 128) : k0_pay5 f b (ix2 r l) = k0_pay2 f b (ix2 r ⟨256 + l.val, by omega⟩) := by
  pointwise [k0_pay5]

theorem third_sum_at (f b : Vec Ideal S1x256x512 .f32) (r : Fin 256) : k0_pay6 f b (ix2 r 0) = ∑ l, k0_pay5 f b (ix2 r l) * k0_pay5 f b (ix2 r l) := by
  pointwise [k0_pay6]

end Cert.PostEvenIdeal.Post

end

end
-- ==== Proof.PostBranch.lean ====
module

public import proofs.«01_k».proof.Proof.Gen.PostEvenIdeal.Value
public import proofs.«01_k».proof.Proof.PostStages
public import Idealize.ShloMosaic.Lib.Pointwise
public import Idealize.ShloMosaic.Lib.Pipeline.ValueKit

@[expose] public section

set_option maxRecDepth 16384

noncomputable section

namespace Cert.PostEvenIdeal.Post

open Cert.PostEvenIdeal Cert.PostEvenIdeal.Gen Idealize.ShloMosaic Idealize.ShloMosaic.TcCoe Idealize.SL.Sem
open Idealize.ShloMosaic.Pointwise
open Cert.Post

/-- The third group, normalised. -/
theorem group2_at (f b : Vec Ideal S1x256x512 .f32) (r : Fin 256) (l : Fin 128) :
    k0_pay5 f b (ix2 r l) * Ideal.rsqrt (Ideal.div (k0_pay6 f b (ix2 r 0)) (Ideal.ofBits .f32 0x43000000#32) + Ideal.ofBits .f32 0x358637BD#32)
      = grp (fun l => k0_pay2 f b (ix2 r ⟨256 + l.val, by omega⟩)) l := by
  rw [third_sum_at]
  simp only [third_at]
  rfl

/-- The mixer's output from the groups' arrays. -/
theorem groups_at (v : FVec Ideal S256x512 .f32) (n0 n1 p2 : FVec Ideal S256x128 .f32) (s2 c2 : FVec Ideal S256x1 .f32) (g2 g3 : Vec Ideal S1x128 .f32)
    (mo : Vec Ideal S1x256x512 .f32) (a : Vec Ideal S1x256x512 .bf16) (W0 W1 : Vec Ideal S512x1024 .bf16) (r : Fin 256) (i : Fin 1024) :
    k0_pay8 v n0 n1 p2 s2 c2 g2 g3 mo a W0 W1 (ix2 r i)
      = (∑ k : Fin 512, a (ix3 0 r k) * W0 (ix2 k i)) + ∑ k : Fin 512, pick (fun l => n0 (ix2 r l)) (fun l => n1 (ix2 r l))
          (fun l => p2 (ix2 r l) * Ideal.rsqrt (Ideal.div (s2 (ix2 r 0)) (c2 (ix2 r 0)) + Ideal.ofBits .f32 0x358637BD#32) * g2 (ix2 0 l))
          (fun l => grp (fun l => v (ix2 r ⟨384 + l.val, by omega⟩)) l * g3 (ix2 0 l)) k * Ideal.logistic (mo (ix3 0 r k)) * W1 (ix2 k i) := by
  pointwise [k0_pay8, pick, grp]

theorem ld_group0 (g : Vec Ideal S1x512 .f32) (l : Fin 128) : View.ld g r0_1 (ix2 0 l) = g (ix2 0 ⟨l.val, by omega⟩) := by pointwise
theorem ld_group1 (g : Vec Ideal S1x512 .f32) (l : Fin 128) : View.ld g r0_2 (ix2 0 l) = g (ix2 0 ⟨128 + l.val, by omega⟩) := by pointwise
theorem ld_group2 (g : Vec Ideal S1x512 .f32) (l : Fin 128) : View.ld g r0_3 (ix2 0 l) = g (ix2 0 ⟨256 + l.val, by omega⟩) := by pointwise
theorem ld_group3 (g : Vec Ideal S1x512 .f32) (l : Fin 128) : View.ld g r0_4 (ix2 0 l) = g (ix2 0 ⟨384 + l.val, by omega⟩) := by pointwise
theorem ld_wlow (W : Vec Ideal S1024x1024 .bf16) (k : Fin 512) (i : Fin 1024) : View.ld W r0_5 (ix2 k i) = W (ix2 ⟨k.val, by omega⟩ i) := by pointwise
theorem ld_whigh (W : Vec Ideal S1024x1024 .bf16) (k : Fin 512) (i : Fin 1024) : View.ld W r0_6 (ix2 k i) = W (ix2 ⟨512 + k.val, by omega⟩ i) := by pointwise

/-- The divisor of the third group. -/
theorem count_at (r : Fin 256) : (k0_pay7 : FVec Ideal S256x1 .f32) (ix2 r 0) = Ideal.ofBits .f32 0x43000000#32 := by pointwise [k0_pay7]

/-- The branch of 256 rows of an even layer. -/
def evenPart (f b mo : Vec Ideal S1x256x512 .f32) (gm : Vec Ideal S1x512 .f32) (a : Vec Ideal S1x256x512 .bf16) (W : Vec Ideal S1024x1024 .bf16) :
    FVec Ideal S256x1024 .f32 :=
  k0_pay8 (k0_pay2 f b) (k0_pay3 f b (View.ld gm r0_1)) (k0_pay4 f b (View.ld gm r0_2)) (k0_pay5 f b) (k0_pay6 f b) k0_pay7 (View.ld gm r0_3) (View.ld gm r0_4) mo a
    (View.ld W r0_5) (View.ld W r0_6)

/-- The attention part and the gated, normalised heads, each against its half of the weights. -/
theorem evenPart_at (f b mo : Vec Ideal S1x256x512 .f32) (gm : Vec Ideal S1x512 .f32) (a : Vec Ideal S1x256x512 .bf16) (W : Vec Ideal S1024x1024 .bf16) (r : Fin 256) (i : Fin 1024) :
    evenPart f b mo gm a W (ix2 r i)
      = branch (fun k => a (ix3 0 r k))
          (fun k => heads (fun k => f (ix3 0 r k) + b (ix3 0 r k)) (fun k => gm (ix2 0 k)) k * Ideal.logistic (mo (ix3 0 r k)))
          (fun k j => W (ix2 k j)) i := by
  have e : ∀ k, pick (fun l => k0_pay3 f b (View.ld gm r0_1) (ix2 r l)) (fun l => k0_pay4 f b (View.ld gm r0_2) (ix2 r l))
      (fun l => k0_pay5 f b (ix2 r l) * Ideal.rsqrt (Ideal.div (k0_pay6 f b (ix2 r 0)) ((k0_pay7 : FVec Ideal S256x1 .f32) (ix2 r 0)) + Ideal.ofBits .f32 0x358637BD#32) * View.ld gm r0_3 (ix2 0 l))
      (fun l => grp (fun l => k0_pay2 f b (ix2 r ⟨384 + l.val, by omega⟩)) l * View.ld gm r0_4 (ix2 0 l)) k
        = heads (fun k => k0_pay2 f b (ix2 r k)) (fun k => gm (ix2 0 k)) k := by
    refine pick_eq _ _ _ _ _ _ (fun l => ?_) (fun l => ?_) (fun l => ?_) (fun l => ?_)
    · rw [group0_at, ld_group0]
    · rw [group1_at, ld_group1]
    · rw [count_at, group2_at, ld_group2]
    · rw [ld_group3]
  rw [evenPart, groups_at]
  refine congrArg₂ (fun p q : EReal => p + q) (Finset.sum_congr rfl fun k _ => congrArg (fun z => a (ix3 0 r k) * z) (ld_wlow W k i))
    (Finset.sum_congr rfl fun k _ => congrArg₂ (fun p q : EReal => p * q) (congrArg (fun z => z * Ideal.logistic (mo (ix3 0 r k))) ((e k).trans ?_)) (ld_whigh W k i))
  simp only [both_at]

/-- The same from the rows that the blocks hold. -/
theorem evenPart_of (f b mo : Vec Ideal S1x256x512 .f32) (gm : Vec Ideal S1x512 .f32) (a : Vec Ideal S1x256x512 .bf16) (W : Vec Ideal S1024x1024 .bf16) (r : Fin 256)
    (fr br mr gr ar : Fin 512 → EReal) (M : Fin 1024 → Fin 1024 → EReal) (hf : ∀ k, f (ix3 0 r k) = fr k) (hb : ∀ k, b (ix3 0 r k) = br k) (hm : ∀ k, mo (ix3 0 r k) = mr k)
    (hg : ∀ k, gm (ix2 0 k) = gr k) (ha : ∀ k, a (ix3 0 r k) = ar k) (hW : ∀ k j, W (ix2 k j) = M k j) (i : Fin 1024) :
    evenPart f b mo gm a W (ix2 r i) = branch ar (fun k => heads (fun k => fr k + br k) gr k * Ideal.logistic (mr k)) M i := by
  obtain rfl : (fun k => f (ix3 0 r k)) = fr := funext hf
  obtain rfl : (fun k => b (ix3 0 r k)) = br := funext hb
  obtain rfl : (fun k => mo (ix3 0 r k)) = mr := funext hm
  obtain rfl : (fun k => gm (ix2 0 k)) = gr := funext hg
  obtain rfl : (fun k => a (ix3 0 r k)) = ar := funext ha
  obtain rfl : (fun k j => W (ix2 k j)) = M := funext fun k => funext (hW k)
  exact evenPart_at f b mo gm a W r i

end Cert.PostEvenIdeal.Post

end

end
-- ==== Proof.PostEvenBlock.lean ====
module

public import proofs.«01_k».proof.Proof.Gen.PostEvenIdeal.Value
public import proofs.«01_k».proof.Proof.PostBranch
public import Idealize.ShloMosaic.Lib.Pointwise
public import Idealize.ShloMosaic.Lib.Pipeline.ValueKit

@[expose] public section

set_option maxRecDepth 16384

noncomputable section

namespace Cert.PostEvenIdeal.Post

open Cert.PostEvenIdeal Cert.PostEvenIdeal.Gen Idealize.ShloMosaic Idealize.ShloMosaic.TcCoe Idealize.SL.Sem
open Idealize.ShloMosaic.Pointwise
open Cert.Post

/-! ## One tile of 256 rows -/

/-- What the kernel stores for 256 rows, from the branch `y`. -/
def halfOf (y : FVec Ideal S256x1024 .f32) (x : Vec Ideal S1x256x1024 .f32) (e2 e3 e4 e5 : Vec Ideal S1x1x1x1024 .f32) (w w2 w3 : Vec Ideal S1x1024 .f32)
    (U0 U1 U2 U3 D0 D1 D2 D3 : Vec Ideal S1024x1024 .bf16) : Vec Ideal S1x256x1024 .f32 :=
  k0_pay22 (k0_pay15 y x e2 w) (k0_pay19 (k0_pay16 y x e2 w w2) (k0_pay17 e4) e3 U0 U1 D0 D1) (k0_pay20 (k0_pay16 y x e2 w w2) (k0_pay17 e4) e3 U3)
    (k0_pay21 (k0_pay16 y x e2 w w2) (k0_pay17 e4) e3 U2) D2 D3 e5 w3

/-- The modulated row as the kernel's payload gives it. -/
theorem modulated_of (y : FVec Ideal S256x1024 .f32) (x : Vec Ideal S1x256x1024 .f32) (e2 e3 e4 : Vec Ideal S1x1x1x1024 .f32) (w w2 : Vec Ideal S1x1024 .f32) (r : Fin 256) (k : Fin 1024) :
    k0_pay18 (k0_pay16 y x e2 w w2) (k0_pay17 e4) e3 (ix2 r k)
      = modulated (resid (fun i => x (ix3 0 r i)) (fun i => e2 (ix4 0 0 0 i)) (fun i => w (ix2 0 i)) (fun i => y (ix2 r i)))
          (fun i => w2 (ix2 0 i)) (fun i => e4 (ix4 0 0 0 i)) (fun i => e3 (ix4 0 0 0 i)) k := by
  rw [modulated_at, normed_at, factor_at]
  simp only [residual_at]
  rfl

/-- The feed-forward part of a stored row. -/
theorem sums_of (y : FVec Ideal S256x1024 .f32) (x : Vec Ideal S1x256x1024 .f32) (e2 e3 e4 : Vec Ideal S1x1x1x1024 .f32) (w w2 : Vec Ideal S1x1024 .f32)
    (U0 U1 U2 U3 D0 D1 D2 D3 : Vec Ideal S1024x1024 .bf16) (U : Fin 1024 → Fin 4096 → EReal) (D : Fin 4096 → Fin 1024 → EReal)
    (hU0 : ∀ k j : Fin 1024, U0 (ix2 k j) = U k ⟨j.val, by omega⟩) (hU1 : ∀ k j : Fin 1024, U1 (ix2 k j) = U k ⟨1024 + j.val, by omega⟩)
    (hU2 : ∀ k j : Fin 1024, U2 (ix2 k j) = U k ⟨2048 + j.val, by omega⟩) (hU3 : ∀ k j : Fin 1024, U3 (ix2 k j) = U k ⟨3072 + j.val, by omega⟩)
    (hD0 : ∀ j i : Fin 1024, D0 (ix2 j i) = D ⟨j.val, by omega⟩ i) (hD1 : ∀ j i : Fin 1024, D1 (ix2 j i) = D ⟨1024 + j.val, by omega⟩ i)
    (hD2 : ∀ j i : Fin 1024, D2 (ix2 j i) = D ⟨2048 + j.val, by omega⟩ i) (hD3 : ∀ j i : Fin 1024, D3 (ix2 j i) = D ⟨3072 + j.val, by omega⟩ i) (r : Fin 256) :
    sums (k0_pay19 (k0_pay16 y x e2 w w2) (k0_pay17 e4) e3 U0 U1 D0 D1) (k0_pay20 (k0_pay16 y x e2 w w2) (k0_pay17 e4) e3 U3)
      (k0_pay21 (k0_pay16 y x e2 w w2) (k0_pay17 e4) e3 U2) D2 D3 r
      = ffn (modulated (resid (fun i => x (ix3 0 r i)) (fun i => e2 (ix4 0 0 0 i)) (fun i => w (ix2 0 i)) (fun i => y (ix2 r i)))
          (fun i => w2 (ix2 0 i)) (fun i => e4 (ix4 0 0 0 i)) (fun i => e3 (ix4 0 0 0 i))) U D := by
  funext i
  rw [ffn_chunks, sums, chunks01_at]
  simp only [product2_at, product3_at, modulated_of, hU0, hU1, hU2, hU3, hD0, hD1, hD2, hD3]
  rfl

/-- A stored row is the second half of the layer, from the branch's row. -/
theorem halfOf_at (y : FVec Ideal S256x1024 .f32) (x : Vec Ideal S1x256x1024 .f32) (e2 e3 e4 e5 : Vec Ideal S1x1x1x1024 .f32) (w w2 w3 : Vec Ideal S1x1024 .f32)
    (U0 U1 U2 U3 D0 D1 D2 D3 : Vec Ideal S1024x1024 .bf16) (U : Fin 1024 → Fin 4096 → EReal) (D : Fin 4096 → Fin 1024 → EReal) (r : Fin 256)
    (xr yr f2 f3 f4 f5 v v2 v3 : Fin 1024 → EReal)
    (hx : ∀ i, x (ix3 0 r i) = xr i) (hy : ∀ i, y (ix2 r i) = yr i)
    (h2 : ∀ i, e2 (ix4 0 0 0 i) = f2 i) (h3 : ∀ i, e3 (ix4 0 0 0 i) = f3 i) (h4 : ∀ i, e4 (ix4 0 0 0 i) = f4 i) (h5 : ∀ i, e5 (ix4 0 0 0 i) = f5 i)
    (hw : ∀ i, w (ix2 0 i) = v i) (hw2 : ∀ i, w2 (ix2 0 i) = v2 i) (hw3 : ∀ i, w3 (ix2 0 i) = v3 i)
    (hU0 : ∀ k j : Fin 1024, U0 (ix2 k j) = U k ⟨j.val, by omega⟩) (hU1 : ∀ k j : Fin 1024, U1 (ix2 k j) = U k ⟨1024 + j.val, by omega⟩)
    (hU2 : ∀ k j : Fin 1024, U2 (ix2 k j) = U k ⟨2048 + j.val, by omega⟩) (hU3 : ∀ k j : Fin 1024, U3 (ix2 k j) = U k ⟨3072 + j.val, by omega⟩)
    (hD0 : ∀ j i : Fin 1024, D0 (ix2 j i) = D ⟨j.val, by omega⟩ i) (hD1 : ∀ j i : Fin 1024, D1 (ix2 j i) = D ⟨1024 + j.val, by omega⟩ i)
    (hD2 : ∀ j i : Fin 1024, D2 (ix2 j i) = D ⟨2048 + j.val, by omega⟩ i) (hD3 : ∀ j i : Fin 1024, D3 (ix2 j i) = D ⟨3072 + j.val, by omega⟩ i) (i : Fin 1024) :
    halfOf y x e2 e3 e4 e5 w w2 w3 U0 U1 U2 U3 D0 D1 D2 D3 (ix3 0 r i) = tail xr yr f2 v f4 f3 v2 f5 v3 U D i := by
  obtain rfl : (fun i => x (ix3 0 r i)) = xr := funext hx
  obtain rfl : (fun i => y (ix2 r i)) = yr := funext hy
  obtain rfl : (fun i => e2 (ix4 0 0 0 i)) = f2 := funext h2
  obtain rfl : (fun i => e3 (ix4 0 0 0 i)) = f3 := funext h3
  obtain rfl : (fun i => e4 (ix4 0 0 0 i)) = f4 := funext h4
  obtain rfl : (fun i => e5 (ix4 0 0 0 i)) = f5 := funext h5
  obtain rfl : (fun i => w (ix2 0 i)) = v := funext hw
  obtain rfl : (fun i => w2 (ix2 0 i)) = v2 := funext hw2
  obtain rfl : (fun i => w3 (ix2 0 i)) = v3 := funext hw3
  rw [halfOf, stored_at, sums_of y x e2 e3 e4 w w2 U0 U1 U2 U3 D0 D1 D2 D3 U D hU0 hU1 hU2 hU3 hD0 hD1 hD2 hD3]
  simp only [residual_at]
  rfl

theorem ld_mod2 (e : Vec Ideal S1x6x1x1024 .f32) (i : Fin 1024) : (View.ld e r0_9 : Vec Ideal S1x1x1x1024 .f32) (ix4 0 0 0 i) = e (ix4 0 2 0 i) := by pointwise
theorem ld_mod4 (e : Vec Ideal S1x6x1x1024 .f32) (i : Fin 1024) : (View.ld e r0_11 : Vec Ideal S1x1x1x1024 .f32) (ix4 0 0 0 i) = e (ix4 0 4 0 i) := by pointwise
theorem ld_mod3 (e : Vec Ideal S1x6x1x1024 .f32) (i : Fin 1024) : (View.ld e r0_12 : Vec Ideal S1x1x1x1024 .f32) (ix4 0 0 0 i) = e (ix4 0 3 0 i) := by pointwise
theorem ld_mod5 (e : Vec Ideal S1x6x1x1024 .f32) (i : Fin 1024) : (View.ld e r0_21 : Vec Ideal S1x1x1x1024 .f32) (ix4 0 0 0 i) = e (ix4 0 5 0 i) := by pointwise
theorem ld_row (w : Vec Ideal S1x1024 .f32) (i : Fin 1024) : (View.ld w r0_10 : Vec Ideal S1x1024 .f32) (ix2 0 i) = w (ix2 0 i) := by pointwise
theorem ld_up0 (U : Vec Ideal S1024x4096 .bf16) (k j : Fin 1024) : (View.ld U r0_13 : Vec Ideal S1024x1024 .bf16) (ix2 k j) = U (ix2 k ⟨j.val, by omega⟩) := by pointwise
theorem ld_up1 (U : Vec Ideal S1024x4096 .bf16) (k j : Fin 1024) : (View.ld U r0_14 : Vec Ideal S1024x1024 .bf16) (ix2 k j) = U (ix2 k ⟨1024 + j.val, by omega⟩) := by pointwise
theorem ld_up2 (U : Vec Ideal S1024x4096 .bf16) (k j : Fin 1024) : (View.ld U r0_16 : Vec Ideal S1024x1024 .bf16) (ix2 k j) = U (ix2 k ⟨2048 + j.val, by omega⟩) := by pointwise
theorem ld_up3 (U : Vec Ideal S1024x4096 .bf16) (k j : Fin 1024) : (View.ld U r0_18 : Vec Ideal S1024x1024 .bf16) (ix2 k j) = U (ix2 k ⟨3072 + j.val, by omega⟩) := by pointwise
theorem ld_down0 (D : Vec Ideal S4096x1024 .bf16) (j i : Fin 1024) : (View.ld D r0_15 : Vec Ideal S1024x1024 .bf16) (ix2 j i) = D (ix2 ⟨j.val, by omega⟩ i) := by pointwise
theorem ld_down1 (D : Vec Ideal S4096x1024 .bf16) (j i : Fin 1024) : (View.ld D r0_17 : Vec Ideal S1024x1024 .bf16) (ix2 j i) = D (ix2 ⟨1024 + j.val, by omega⟩ i) := by pointwise
theorem ld_down2 (D : Vec Ideal S4096x1024 .bf16) (j i : Fin 1024) : (View.ld D r0_19 : Vec Ideal S1024x1024 .bf16) (ix2 j i) = D (ix2 ⟨2048 + j.val, by omega⟩ i) := by pointwise
theorem ld_down3 (D : Vec Ideal S4096x1024 .bf16) (j i : Fin 1024) : (View.ld D r0_20 : Vec Ideal S1024x1024 .bf16) (ix2 j i) = D (ix2 ⟨3072 + j.val, by omega⟩ i) := by pointwise

/-- The same from the blocks that the kernel reads. -/
def half (y : FVec Ideal S256x1024 .f32) (x : Vec Ideal S1x256x1024 .f32) (e : Vec Ideal S1x6x1x1024 .f32) (w w2 w3 : Vec Ideal S1x1024 .f32)
    (U : Vec Ideal S1024x4096 .bf16) (D : Vec Ideal S4096x1024 .bf16) : Vec Ideal S1x256x1024 .f32 :=
  halfOf y x (View.ld e r0_9) (View.ld e r0_12) (View.ld e r0_11) (View.ld e r0_21) (View.ld w r0_10) (View.ld w2 r0_10) (View.ld w3 r0_10)
    (View.ld U r0_13) (View.ld U r0_14) (View.ld U r0_16) (View.ld U r0_18) (View.ld D r0_15) (View.ld D r0_17) (View.ld D r0_19) (View.ld D r0_20)

theorem half_at (y : FVec Ideal S256x1024 .f32) (x : Vec Ideal S1x256x1024 .f32) (e : Vec Ideal S1x6x1x1024 .f32) (w w2 w3 : Vec Ideal S1x1024 .f32)
    (U : Vec Ideal S1024x4096 .bf16) (D : Vec Ideal S4096x1024 .bf16) (r : Fin 256) (xr yr f2 f3 f4 f5 v v2 v3 : Fin 1024 → EReal) (M : Fin 1024 → Fin 4096 → EReal) (N : Fin 4096 → Fin 1024 → EReal)
    (hx : ∀ i, x (ix3 0 r i) = xr i) (hy : ∀ i, y (ix2 r i) = yr i)
    (h2 : ∀ i, e (ix4 0 2 0 i) = f2 i) (h3 : ∀ i, e (ix4 0 3 0 i) = f3 i) (h4 : ∀ i, e (ix4 0 4 0 i) = f4 i) (h5 : ∀ i, e (ix4 0 5 0 i) = f5 i)
    (hw : ∀ i, w (ix2 0 i) = v i) (hw2 : ∀ i, w2 (ix2 0 i) = v2 i) (hw3 : ∀ i, w3 (ix2 0 i) = v3 i) (hU : ∀ k j, U (ix2 k j) = M k j) (hD : ∀ j i, D (ix2 j i) = N j i)
    (i : Fin 1024) : half y x e w w2 w3 U D (ix3 0 r i) = tail xr yr f2 v f4 f3 v2 f5 v3 M N i :=
  halfOf_at y x _ _ _ _ _ _ _ _ _ _ _ _ _ _ _ M N r xr yr f2 f3 f4 f5 v v2 v3 hx hy (fun i => (ld_mod2 e i).trans (h2 i)) (fun i => (ld_mod3 e i).trans (h3 i))
    (fun i => (ld_mod4 e i).trans (h4 i)) (fun i => (ld_mod5 e i).trans (h5 i)) (fun i => (ld_row w i).trans (hw i)) (fun i => (ld_row w2 i).trans (hw2 i)) (fun i => (ld_row w3 i).trans (hw3 i))
    (fun k j => (ld_up0 U k j).trans (hU _ _)) (fun k j => (ld_up1 U k j).trans (hU _ _)) (fun k j => (ld_up2 U k j).trans (hU _ _)) (fun k j => (ld_up3 U k j).trans (hU _ _))
    (fun j i => (ld_down0 D j i).trans (hD _ _)) (fun j i => (ld_down1 D j i).trans (hD _ _)) (fun j i => (ld_down2 D j i).trans (hD _ _)) (fun j i => (ld_down3 D j i).trans (hD _ _)) i

/-- The two tiles of 256 rows that the kernel reads of a block. -/
theorem ld_rows0 (x : Vec Ideal S1x512x1024 .f32) (r : Fin 256) (i : Fin 1024) : (View.ld x r0_8 : Vec Ideal S1x256x1024 .f32) (ix3 0 r i) = x (ix3 0 ⟨r.val, by omega⟩ i) := by pointwise
theorem ld_rows1 (x : Vec Ideal S1x512x1024 .f32) (r : Fin 256) (i : Fin 1024) : (View.ld x r0_22 : Vec Ideal S1x256x1024 .f32) (ix3 0 r i) = x (ix3 0 ⟨256 + r.val, by omega⟩ i) := by pointwise
theorem ld_heads0 (x : Vec Ideal S1x512x512 .f32) (r : Fin 256) (i : Fin 512) : (View.ld x r0_0 : Vec Ideal S1x256x512 .f32) (ix3 0 r i) = x (ix3 0 ⟨r.val, by omega⟩ i) := by pointwise
theorem ld_heads1 (x : Vec Ideal S1x512x512 .f32) (r : Fin 256) (i : Fin 512) : (View.ld x r0_7 : Vec Ideal S1x256x512 .f32) (ix3 0 r i) = x (ix3 0 ⟨256 + r.val, by omega⟩ i) := by pointwise
theorem ld_attn0 (x : Vec Ideal S1x512x512 .bf16) (r : Fin 256) (i : Fin 512) : (View.ld x r0_0 : Vec Ideal S1x256x512 .bf16) (ix3 0 r i) = x (ix3 0 ⟨r.val, by omega⟩ i) := by pointwise
theorem ld_attn1 (x : Vec Ideal S1x512x512 .bf16) (r : Fin 256) (i : Fin 512) : (View.ld x r0_7 : Vec Ideal S1x256x512 .bf16) (ix3 0 r i) = x (ix3 0 ⟨256 + r.val, by omega⟩ i) := by pointwise

/-- An index from its three coordinates. -/
theorem ix3_of {n0 n1 n2 : ℕ} (j : (⟨3, ![n0, n1, n2]⟩ : Shape).Idx) (a : Fin n0) (b : Fin n1) (c : Fin n2) (ha : (j 0 : ℕ) = a.val) (hb : (j 1 : ℕ) = b.val)
    (hc : (j 2 : ℕ) = c.val) : j = ix3 a b c := by
  obtain rfl : j 0 = a := Fin.ext ha
  obtain rfl : j 1 = b := Fin.ext hb
  obtain rfl : j 2 = c := Fin.ext hc
  exact eq_ix3 j

/-- The kernel's block: two stores of 256 rows. -/
theorem out_eq (x0 : Vec Ideal S1x512x1024 .f32) (x1 : Vec Ideal S1x512x512 .bf16) (x2 x3 x4 : Vec Ideal S1x512x512 .f32) (x5 : Vec Ideal S1x6x1x1024 .f32)
    (x6 : Vec Ideal S1x512 .f32) (x7 x8 x9 : Vec Ideal S1x1024 .f32) (x10 : Vec Ideal S1024x1024 .bf16) (x11 : Vec Ideal S1024x4096 .bf16) (x12 : Vec Ideal S4096x1024 .bf16) :
    out0_13 x0 x1 x2 x3 x4 x5 x6 x7 x8 x9 x10 x11 x12 = View.canon
      [⟨r0_22, half (evenPart (View.ld x2 r0_7) (View.ld x3 r0_7) (View.ld x4 r0_7) x6 (View.ld x1 r0_7) x10) (View.ld x0 r0_22) x5 x7 x8 x9 x11 x12⟩,
       ⟨r0_8, half (evenPart (View.ld x2 r0_0) (View.ld x3 r0_0) (View.ld x4 r0_0) x6 (View.ld x1 r0_0) x10) (View.ld x0 r0_8) x5 x7 x8 x9 x11 x12⟩] := by
  rfl

end Cert.PostEvenIdeal.Post

end

end
-- ==== Proof.PostRef.lean ====
module

public import proofs.«01_k».proof.Proof.Gen.RefEvenIdeal
public import proofs.«01_k».proof.Proof.PostMath
public import Idealize.ShloMosaic.Lib.Pointwise
public import Idealize.ShloMosaic.Lib.Pipeline.ValueKit

@[expose] public section

set_option maxRecDepth 16384

noncomputable section

namespace Cert.RefEvenIdeal.Post

open Cert.RefEvenIdeal Cert.RefEvenIdeal.Gen Idealize.ShloMosaic Idealize.ShloMosaic.TcCoe Idealize.SL.Sem
open Idealize.ShloMosaic.Pointwise
open Cert.Post

/-! ## The reference's stages -/

/-- The two directions' heads, added. -/
def sumHeads (f b : FVec Ideal S8x2048x512 .f32) : FVec Ideal S8x2048x4x128 .f32 :=
  shapeCast _ (addf f b) shapeCasts_S8x2048x512_S8x2048x4x128

/-- The heads over their root mean squares, weighted. -/
def normHeads (v : FVec Ideal S8x2048x4x128 .f32) (g : FVec Ideal S512 .f32) : FVec Ideal S8x2048x512 .f32 :=
  shapeCast _ (mulf (mulf v (broadcastInDim S8x2048x4x128 ![0, 1, 2, 3] bcast_S8x2048x4x1_S8x2048x4x128_0_1_2_3 (Host.rsqrt (addf (Host.divf (broadcastInDim S8x2048x4x1 ![0, 1, 2] bcast_S8x2048x4_S8x2048x4x1_0_1_2 (Host.reduceAdd (mulf v v) (constant S_ .f32 0x00000000#32) reducesTo_S8x2048x4x128_S8x2048x4_d3 h_S_)) (broadcastInDim S8x2048x4x1 ![] bcast_S_S8x2048x4x1 (constant S_ .f32 0x43000000#32))) (broadcastInDim S8x2048x4x1 ![] bcast_S_S8x2048x4x1 (constant S_ .f32 0x358637BD#32)))))) (broadcastInDim S8x2048x4x128 ![0, 1, 2, 3] bcast_S1x1x4x128_S8x2048x4x128_0_1_2_3 (broadcastInDim S1x1x4x128 ![2, 3] bcast_S4x128_S1x1x4x128_2_3 (shapeCast _ g shapeCasts_S512_S4x128)))) shapeCasts_S8x2048x4x128_S8x2048x512

/-- The logistic function of the gate. -/
def sigm (o : FVec Ideal S8x2048x512 .f32) : FVec Ideal S8x2048x512 .f32 :=
  Host.divf (broadcastInDim S8x2048x512 ![] bcast_S_S8x2048x512 (constant S_ .f32 0x3F800000#32)) (addf (broadcastInDim S8x2048x512 ![] bcast_S_S8x2048x512 (constant S_ .f32 0x3F800000#32)) (Host.exp (Host.negf o)))

/-- The two halves of the mixer, side by side, against the weights. -/
def joinHalves (a n : FVec Ideal S8x2048x512 .f32) (W : FVec Ideal S1024x1024 .f32) : FVec Ideal S8x2048x1024 .f32 :=
  Host.dotGeneral dot_S8x2048x1024_S1024x1024_S8x2048x1024_2_0_01_1_n_n none (concatenate S8x2048x1024 2 [⟨S8x2048x512, a⟩, ⟨S8x2048x512, n⟩] concatenates_S8x2048x512_S8x2048x512_S8x2048x1024_d2) W

/-- The modulation of the batch's rows. -/
def mods (e : FVec Ideal S16x6144 .f32) : FVec Ideal S8x1x6144 .f32 :=
  broadcastInDim S8x1x6144 ![0, 2] bcast_S8x6144_S8x1x6144_0_2 (extractStridedSlice S8x6144 ![1, 0] e slices_S16x6144_S8x6144_1_0)

/-- The rows over their root mean squares, weighted. -/
def normRows (x : FVec Ideal S8x2048x1024 .f32) (w : FVec Ideal S1024 .f32) : FVec Ideal S8x2048x1024 .f32 :=
  mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 w))

/-- The rows plus the gate times a normalised branch. -/
def addBranch (x : FVec Ideal S8x2048x1024 .f32) (s : FVec Ideal S8x1x1024 .f32) (n : FVec Ideal S8x2048x1024 .f32) : FVec Ideal S8x2048x1024 .f32 :=
  addf x (mulf (broadcastInDim S8x2048x1024 ![0, 1, 2] bcast_S8x1x1024_S8x2048x1024_0_1_2 s) n)

/-- The normalised rows, scaled and shifted. -/
def modulate (n : FVec Ideal S8x2048x1024 .f32) (s b : FVec Ideal S8x1x1024 .f32) : FVec Ideal S8x2048x1024 .f32 :=
  addf (mulf n (broadcastInDim S8x2048x1024 ![0, 1, 2] bcast_S8x1x1024_S8x2048x1024_0_1_2 (addf (broadcastInDim S8x1x1024 ![] bcast_S_S8x1x1024 (constant S_ .f32 0x3F800000#32)) s))) (broadcastInDim S8x2048x1024 ![0, 1, 2] bcast_S8x1x1024_S8x2048x1024_0_1_2 b)

/-- The hidden features' positive parts. -/
def positive (h : FVec Ideal S8x2048x1024 .f32) (U : FVec Ideal S1024x4096 .f32) : FVec Ideal S8x2048x4096 .f32 :=
  maximumf (Host.dotGeneral dot_S8x2048x1024_S1024x4096_S8x2048x4096_2_0_01_1_n_n none h U) (broadcastInDim S8x2048x4096 ![] bcast_S_S8x2048x4096 (constant S_ .f32 0x00000000#32))

/-- The feed-forward part's second product. -/
def project (p : FVec Ideal S8x2048x4096 .f32) (D : FVec Ideal S4096x1024 .f32) : FVec Ideal S8x2048x1024 .f32 :=
  Host.dotGeneral dot_S8x2048x4096_S4096x1024_S8x2048x1024_2_0_01_1_n_n none (mulf p p) D

/-- The second half after the branch `y`. -/
def secondHalf (x y : FVec Ideal S8x2048x1024 .f32) (e : FVec Ideal S16x6144 .f32) (w w2 w3 : FVec Ideal S1024 .f32) (U : FVec Ideal S1024x4096 .f32) (D : FVec Ideal S4096x1024 .f32) : FVec Ideal S8x2048x1024 .f32 :=
  let x1 := addBranch x (extractStridedSlice S8x1x1024 ![0, 0, 2048] (mods e) slices_S8x1x6144_S8x1x1024_0_0_2048) (normRows y w)
  addBranch x1 (extractStridedSlice S8x1x1024 ![0, 0, 5120] (mods e) slices_S8x1x6144_S8x1x1024_0_0_5120)
    (normRows (project (positive (modulate (normRows x1 w2) (extractStridedSlice S8x1x1024 ![0, 0, 4096] (mods e) slices_S8x1x6144_S8x1x1024_0_0_4096)
      (extractStridedSlice S8x1x1024 ![0, 0, 3072] (mods e) slices_S8x1x6144_S8x1x1024_0_0_3072)) U) D) w3)

/-! ## Their entries -/

theorem one_eq : Ideal.ofBits .f32 0x3F800000#32 = 1 := by
  simp [Ideal.ofBits, Ideal.ieee, -EReal.coe_mul]
  norm_num

theorem sumHeads_at (f b : FVec Ideal S8x2048x512 .f32) (n : Fin 8) (r : Fin 2048) (h : Fin 4) (l : Fin 128) :
    sumHeads f b (ix4 n r h l) = f (ix3 n r ⟨h.val * 128 + l.val, by omega⟩) + b (ix3 n r ⟨h.val * 128 + l.val, by omega⟩) := by
  pointwise [sumHeads]
  blk_ext

theorem normHeads_at (v : FVec Ideal S8x2048x4x128 .f32) (g : FVec Ideal S512 .f32) (n : Fin 8) (r : Fin 2048) (k : Fin 512) :
    normHeads v g (ix3 n r k) = grp (fun l => v (ix4 n r ⟨k.val / 128, by omega⟩ l)) ⟨k.val % 128, by omega⟩ * g (ix1 k) := by
  pointwise [normHeads, grp]
  blk_ext

theorem sigm_at (o : FVec Ideal S8x2048x512 .f32) (n : Fin 8) (r : Fin 2048) (k : Fin 512) : sigm o (ix3 n r k) = Ideal.logistic (o (ix3 n r k)) := by
  pointwise [sigm, Ideal.logistic]

theorem joinHalves_at (a n : FVec Ideal S8x2048x512 .f32) (W : FVec Ideal S1024x1024 .f32) (b : Fin 8) (r : Fin 2048) (i : Fin 1024) :
    joinHalves a n W (ix3 b r i) = branch (fun k => a (ix3 b r k)) (fun k => n (ix3 b r k)) (fun k j => W (ix2 k j)) i := by
  pointwise [joinHalves, branch]

theorem mods2_at (e : FVec Ideal S16x6144 .f32) (b : Fin 8) (i : Fin 1024) :
    extractStridedSlice S8x1x1024 ![0, 0, 2048] (mods e) slices_S8x1x6144_S8x1x1024_0_0_2048 (ix3 b 0 i) = e (ix2 ⟨1 + b.val, by omega⟩ ⟨2048 + i.val, by omega⟩) := by
  pointwise [mods]

theorem mods3_at (e : FVec Ideal S16x6144 .f32) (b : Fin 8) (i : Fin 1024) :
    extractStridedSlice S8x1x1024 ![0, 0, 3072] (mods e) slices_S8x1x6144_S8x1x1024_0_0_3072 (ix3 b 0 i) = e (ix2 ⟨1 + b.val, by omega⟩ ⟨3072 + i.val, by omega⟩) := by
  pointwise [mods]

theorem mods4_at (e : FVec Ideal S16x6144 .f32) (b : Fin 8) (i : Fin 1024) :
    extractStridedSlice S8x1x1024 ![0, 0, 4096] (mods e) slices_S8x1x6144_S8x1x1024_0_0_4096 (ix3 b 0 i) = e (ix2 ⟨1 + b.val, by omega⟩ ⟨4096 + i.val, by omega⟩) := by
  pointwise [mods]

theorem mods5_at (e : FVec Ideal S16x6144 .f32) (b : Fin 8) (i : Fin 1024) :
    extractStridedSlice S8x1x1024 ![0, 0, 5120] (mods e) slices_S8x1x6144_S8x1x1024_0_0_5120 (ix3 b 0 i) = e (ix2 ⟨1 + b.val, by omega⟩ ⟨5120 + i.val, by omega⟩) := by
  pointwise [mods]

theorem normRows_at (x : FVec Ideal S8x2048x1024 .f32) (w : FVec Ideal S1024 .f32) (b : Fin 8) (r : Fin 2048) (i : Fin 1024) :
    normRows x w (ix3 b r i) = rms (fun i => x (ix3 b r i)) i * w (ix1 i) := by
  pointwise [normRows, rms]

theorem addBranch_at (x : FVec Ideal S8x2048x1024 .f32) (s : FVec Ideal S8x1x1024 .f32) (n : FVec Ideal S8x2048x1024 .f32) (b : Fin 8) (r : Fin 2048) (i : Fin 1024) :
    addBranch x s n (ix3 b r i) = x (ix3 b r i) + s (ix3 b 0 i) * n (ix3 b r i) := by
  pointwise [addBranch]

theorem modulate_at (n : FVec Ideal S8x2048x1024 .f32) (s c : FVec Ideal S8x1x1024 .f32) (b : Fin 8) (r : Fin 2048) (i : Fin 1024) :
    modulate n s c (ix3 b r i) = n (ix3 b r i) * (Ideal.ofBits .f32 0x3F800000#32 + s (ix3 b 0 i)) + c (ix3 b 0 i) := by
  pointwise [modulate]

theorem positive_at (h : FVec Ideal S8x2048x1024 .f32) (U : FVec Ideal S1024x4096 .f32) (b : Fin 8) (r : Fin 2048) (j : Fin 4096) :
    positive h U (ix3 b r j) = max (∑ k, h (ix3 b r k) * U (ix2 k j)) 0 := by
  pointwise [positive]

theorem project_at (p : FVec Ideal S8x2048x4096 .f32) (D : FVec Ideal S4096x1024 .f32) (b : Fin 8) (r : Fin 2048) (i : Fin 1024) :
    project p D (ix3 b r i) = ∑ j, p (ix3 b r j) * p (ix3 b r j) * D (ix2 j i) := by
  pointwise [project]

theorem secondHalf_at (x y : FVec Ideal S8x2048x1024 .f32) (e : FVec Ideal S16x6144 .f32) (w w2 w3 : FVec Ideal S1024 .f32) (U : FVec Ideal S1024x4096 .f32) (D : FVec Ideal S4096x1024 .f32) (b : Fin 8) (r : Fin 2048) (i : Fin 1024) :
    secondHalf x y e w w2 w3 U D (ix3 b r i) =
      tail (fun i => x (ix3 b r i)) (fun i => y (ix3 b r i)) (fun i => e (ix2 ⟨1 + b.val, by omega⟩ ⟨2048 + i.val, by omega⟩)) (fun i => w (ix1 i))
        (fun i => e (ix2 ⟨1 + b.val, by omega⟩ ⟨4096 + i.val, by omega⟩)) (fun i => e (ix2 ⟨1 + b.val, by omega⟩ ⟨3072 + i.val, by omega⟩)) (fun i => w2 (ix1 i))
        (fun i => e (ix2 ⟨1 + b.val, by omega⟩ ⟨5120 + i.val, by omega⟩)) (fun i => w3 (ix1 i)) (fun k j => U (ix2 k j)) (fun j i => D (ix2 j i)) i := by
  simp only [secondHalf, addBranch_at, normRows_at, project_at, positive_at, modulate_at, mods2_at, mods3_at, mods4_at, mods5_at]
  rfl

/-- The branch of an even layer. -/
def evenBranch (a f b o : FVec Ideal S8x2048x512 .f32) (g : FVec Ideal S512 .f32) (W : FVec Ideal S1024x1024 .f32) : FVec Ideal S8x2048x1024 .f32 :=
  joinHalves a (mulf (normHeads (sumHeads f b) g) (sigm o)) W

theorem evenBranch_at (a f b o : FVec Ideal S8x2048x512 .f32) (g : FVec Ideal S512 .f32) (W : FVec Ideal S1024x1024 .f32) (n : Fin 8) (r : Fin 2048) (i : Fin 1024) :
    evenBranch a f b o g W (ix3 n r i) = branch (fun k => a (ix3 n r k))
      (fun k => heads (fun k => f (ix3 n r k) + b (ix3 n r k)) (fun k => g (ix1 k)) k * Ideal.logistic (o (ix3 n r k))) (fun k j => W (ix2 k j)) i := by
  rw [evenBranch, joinHalves_at]
  refine congrArg (fun z => branch _ z _ i) (funext fun k => ?_)
  rw [show mulf (normHeads (sumHeads f b) g) (sigm o) (ix3 n r k) = normHeads (sumHeads f b) g (ix3 n r k) * sigm o (ix3 n r k) from rfl, normHeads_at, sigm_at]
  simp only [sumHeads_at]
  rfl

/-- The recurrence's output, gated. -/
def gateRec (g h : FVec Ideal S8x2048x512 .f32) : FVec Ideal S8x2048x512 .f32 :=
  mulf (mulf g (mulf (broadcastInDim S8x2048x512 ![] bcast_S_S8x2048x512 (constant S_ .f32 0x3F000000#32)) (addf (broadcastInDim S8x2048x512 ![] bcast_S_S8x2048x512 (constant S_ .f32 0x3F800000#32)) (Host.tanh (mulf (broadcastInDim S8x2048x512 ![] bcast_S_S8x2048x512 (constant S_ .f32 0x3F4C422A#32)) (addf g (mulf (broadcastInDim S8x2048x512 ![] bcast_S_S8x2048x512 (constant S_ .f32 0x3D372713#32)) (mulf (mulf g g) g)))))))) h

theorem gateRec_at (g h : FVec Ideal S8x2048x512 .f32) (n : Fin 8) (r : Fin 2048) (k : Fin 512) : gateRec g h (ix3 n r k) = gelu (g (ix3 n r k)) (h (ix3 n r k)) := by
  rw [gelu, mul_comm (g (ix3 n r k)) (g (ix3 n r k) * g (ix3 n r k))]
  pointwise [gateRec]

/-- The branch of an odd layer. -/
def oddBranch (h g f b o : FVec Ideal S8x2048x512 .f32) (gm : FVec Ideal S512 .f32) (W : FVec Ideal S1024x1024 .f32) : FVec Ideal S8x2048x1024 .f32 :=
  joinHalves (gateRec g h) (mulf (normHeads (sumHeads f b) gm) (mulf o (sigm o))) W

theorem oddBranch_at (h g f b o : FVec Ideal S8x2048x512 .f32) (gm : FVec Ideal S512 .f32) (W : FVec Ideal S1024x1024 .f32) (n : Fin 8) (r : Fin 2048) (i : Fin 1024) :
    oddBranch h g f b o gm W (ix3 n r i) = branch (fun k => gelu (g (ix3 n r k)) (h (ix3 n r k)))
      (fun k => heads (fun k => f (ix3 n r k) + b (ix3 n r k)) (fun k => gm (ix1 k)) k * (o (ix3 n r k) * Ideal.logistic (o (ix3 n r k)))) (fun k j => W (ix2 k j)) i := by
  rw [oddBranch, joinHalves_at]
  refine congrArg₂ (fun y z => branch y z _ i) (funext fun k => gateRec_at g h n r k) (funext fun k => ?_)
  rw [show mulf (normHeads (sumHeads f b) gm) (mulf o (sigm o)) (ix3 n r k) = normHeads (sumHeads f b) gm (ix3 n r k) * (o (ix3 n r k) * sigm o (ix3 n r k)) from rfl,
    normHeads_at, sigm_at]
  simp only [sumHeads_at]
  rfl

end Cert.RefEvenIdeal.Post

end

end
-- ==== Proof.PostRows.lean ====
module

public import proofs.«01_k».proof.Proof.PostEvenBlock
public import proofs.«01_k».proof.Proof.PostRef
public import Idealize.ShloMosaic.Lib.Claim

@[expose] public section

set_option maxRecDepth 16384

noncomputable section

namespace Cert.Post

open Idealize.ShloMosaic Idealize.ShloMosaic.TcCoe Idealize.SL.Sem
open Idealize.ShloMosaic.Pointwise
open Cert.PostEvenIdeal

/-- A stored row of the kernel is the reference's row, for any tile of rows, when the branch's row is. -/
theorem half_eq (y : FVec Ideal S256x1024 .f32) (x : Vec Ideal S1x256x1024 .f32) (e : Vec Ideal S1x6x1x1024 .f32) (w w2 w3 : Vec Ideal S1x1024 .f32)
    (U : Vec Ideal S1024x4096 .bf16) (D : Vec Ideal S4096x1024 .bf16) (X Y : FVec Ideal S8x2048x1024 .f32) (E : FVec Ideal S16x6144 .f32) (v v2 v3 : FVec Ideal S1024 .f32)
    (M : FVec Ideal S1024x4096 .f32) (N : FVec Ideal S4096x1024 .f32) (r : Fin 256) (b : Fin 8) (R : Fin 2048)
    (hx : ∀ i, x (ix3 0 r i) = X (ix3 b R i)) (hy : ∀ i, y (ix2 r i) = Y (ix3 b R i))
    (he : ∀ (q : Fin 6) (i : Fin 1024), e (ix4 0 q 0 i) = E (ix2 ⟨1 + b.val, by omega⟩ ⟨q.val * 1024 + i.val, by omega⟩))
    (hw : ∀ i, w (ix2 0 i) = v (ix1 i)) (hw2 : ∀ i, w2 (ix2 0 i) = v2 (ix1 i)) (hw3 : ∀ i, w3 (ix2 0 i) = v3 (ix1 i))
    (hU : ∀ k j, U (ix2 k j) = M (ix2 k j)) (hD : ∀ j i, D (ix2 j i) = N (ix2 j i)) (i : Fin 1024) :
    Cert.PostEvenIdeal.Post.half y x e w w2 w3 U D (ix3 0 r i) = Cert.RefEvenIdeal.Post.secondHalf X Y E v v2 v3 M N (ix3 b R i) :=
  (Cert.PostEvenIdeal.Post.half_at y x e w w2 w3 U D r _ _ _ _ _ _ _ _ _ _ _ hx hy (he 2) (he 3) (he 4) (he 5) hw hw2 hw3 hU hD i).trans
    (Cert.RefEvenIdeal.Post.secondHalf_at X Y E v v2 v3 M N b R i).symm

end Cert.Post

end

end
-- ==== Proof.PostEvenFinal.lean ====
module

public import proofs.«01_k».proof.Proof.Gen.PostEvenIdeal
public import proofs.«01_k».proof.Proof.PostRows
public import Idealize.ShloMosaic.Lib.Claim

@[expose] public section

set_option maxRecDepth 16384

noncomputable section

namespace Cert.PostEvenIdeal.Post

open Cert.PostEvenIdeal Cert.PostEvenIdeal.Gen Idealize.ShloMosaic Idealize.ShloMosaic.TcCoe Idealize.SL.Sem
open Idealize.ShloMosaic.Pointwise
open Cert.Post

variable (m : (ℓ : Loc nD τ sig) → Buf (Elt Ideal) ℓ)

/-! ## The arrays that the call is given -/

theorem V_mods (c : Dev nD) (n : Fin 16) (q : Fin 6) (i : Fin 1024) :
    V m c main_v0 (ix4 n q 0 i) = m ((c : Thread nD τ).loc main_arg5) (ix2 n ⟨q.val * 1024 + i.val, by omega⟩) := by
  entry_read
  pointwise
  blk_ext

theorem V_gm (c : Dev nD) (k : Fin 512) : V m c main_v1 (ix2 0 k) = m ((c : Thread nD τ).loc main_arg6) (ix1 k) := by
  entry_read
  pointwise

theorem V_w7 (c : Dev nD) (k : Fin 1024) : V m c main_v2 (ix2 0 k) = m ((c : Thread nD τ).loc main_arg7) (ix1 k) := by
  entry_read
  pointwise

theorem V_w8 (c : Dev nD) (k : Fin 1024) : V m c main_v3 (ix2 0 k) = m ((c : Thread nD τ).loc main_arg8) (ix1 k) := by
  entry_read
  pointwise

theorem V_w9 (c : Dev nD) (k : Fin 1024) : V m c main_v4 (ix2 0 k) = m ((c : Thread nD τ).loc main_arg9) (ix1 k) := by
  entry_read
  pointwise

theorem V_x (c : Dev nD) : V m c main_arg0 = m ((c : Thread nD τ).loc main_arg0) := rfl
theorem V_f (c : Dev nD) : V m c main_arg2 = m ((c : Thread nD τ).loc main_arg2) := rfl
theorem V_b (c : Dev nD) : V m c main_arg3 = m ((c : Thread nD τ).loc main_arg3) := rfl
theorem V_o (c : Dev nD) : V m c main_arg4 = m ((c : Thread nD τ).loc main_arg4) := rfl
theorem V_W (c : Dev nD) : V m c main_v5 = m ((c : Thread nD τ).loc main_arg10) := rfl
theorem V_U (c : Dev nD) : V m c main_v6 = m ((c : Thread nD τ).loc main_arg11) := rfl
theorem V_D (c : Dev nD) : V m c main_v7 = m ((c : Thread nD τ).loc main_arg12) := rfl
theorem V_a (c : Dev nD) : V m c main_v8 = m ((c : Thread nD τ).loc main_arg1) := rfl

/-! ## The blocks -/

theorem idx : ∀ t : Fin cfg0.N, win0_0.index t = ![t.val / 4, t.val % 4, 0] ∧ win0_1.index t = ![t.val / 4, t.val % 4, 0]
    ∧ win0_2.index t = ![t.val / 4, t.val % 4, 0] ∧ win0_3.index t = ![t.val / 4, t.val % 4, 0] ∧ win0_4.index t = ![t.val / 4, t.val % 4, 0]
    ∧ win0_5.index t = ![1 + t.val / 4, 0, 0, 0] ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![t.val / 4, t.val % 4, 0] :=
  (by decide +kernel : ∀ t : Fin grid0.N, _)

theorem blk_x (c : Dev nD) (t : Fin cfg0.N) (ht : t.val < 32) (r : Fin 512) (i : Fin 1024) :
    (iblk m c 0 t : Vec Ideal S1x512x1024 .f32) (ix3 0 r i) = m ((c : Thread nD τ).loc main_arg0) (ix3 ⟨t.val / 4, by omega⟩ ⟨t.val % 4 * 512 + r.val, by omega⟩ i) := by
  refine Eq.trans ?_ (congrFun (V_x m c) _)
  blk_point [iblk, idx t]

theorem blk_a (c : Dev nD) (t : Fin cfg0.N) (ht : t.val < 32) (r : Fin 512) (i : Fin 512) :
    (iblk m c 1 t : Vec Ideal S1x512x512 .bf16) (ix3 0 r i) = m ((c : Thread nD τ).loc main_arg1) (ix3 ⟨t.val / 4, by omega⟩ ⟨t.val % 4 * 512 + r.val, by omega⟩ i) := by
  refine Eq.trans ?_ (congrFun (V_a m c) _)
  blk_point [iblk, idx t]

theorem blk_f (c : Dev nD) (t : Fin cfg0.N) (ht : t.val < 32) (r : Fin 512) (i : Fin 512) :
    (iblk m c 2 t : Vec Ideal S1x512x512 .f32) (ix3 0 r i) = m ((c : Thread nD τ).loc main_arg2) (ix3 ⟨t.val / 4, by omega⟩ ⟨t.val % 4 * 512 + r.val, by omega⟩ i) := by
  refine Eq.trans ?_ (congrFun (V_f m c) _)
  blk_point [iblk, idx t]

theorem blk_b (c : Dev nD) (t : Fin cfg0.N) (ht : t.val < 32) (r : Fin 512) (i : Fin 512) :
    (iblk m c 3 t : Vec Ideal S1x512x512 .f32) (ix3 0 r i) = m ((c : Thread nD τ).loc main_arg3) (ix3 ⟨t.val / 4, by omega⟩ ⟨t.val % 4 * 512 + r.val, by omega⟩ i) := by
  refine Eq.trans ?_ (congrFun (V_b m c) _)
  blk_point [iblk, idx t]

theorem blk_o (c : Dev nD) (t : Fin cfg0.N) (ht : t.val < 32) (r : Fin 512) (i : Fin 512) :
    (iblk m c 4 t : Vec Ideal S1x512x512 .f32) (ix3 0 r i) = m ((c : Thread nD τ).loc main_arg4) (ix3 ⟨t.val / 4, by omega⟩ ⟨t.val % 4 * 512 + r.val, by omega⟩ i) := by
  refine Eq.trans ?_ (congrFun (V_o m c) _)
  blk_point [iblk, idx t]

theorem blk_e (c : Dev nD) (t : Fin cfg0.N) (ht : t.val < 32) (q : Fin 6) (i : Fin 1024) :
    (iblk m c 5 t : Vec Ideal S1x6x1x1024 .f32) (ix4 0 q 0 i) = m ((c : Thread nD τ).loc main_arg5) (ix2 ⟨1 + t.val / 4, by omega⟩ ⟨q.val * 1024 + i.val, by omega⟩) := by
  refine Eq.trans ?_ (V_mods m c _ q i)
  blk_point [iblk, idx t]

theorem blk_gm (c : Dev nD) (t : Fin cfg0.N) (k : Fin 512) : (iblk m c 6 t : Vec Ideal S1x512 .f32) (ix2 0 k) = m ((c : Thread nD τ).loc main_arg6) (ix1 k) := by
  refine Eq.trans ?_ (V_gm m c k)
  blk_point [iblk, idx t]

theorem blk_w7 (c : Dev nD) (t : Fin cfg0.N) (k : Fin 1024) : (iblk m c 7 t : Vec Ideal S1x1024 .f32) (ix2 0 k) = m ((c : Thread nD τ).loc main_arg7) (ix1 k) := by
  refine Eq.trans ?_ (V_w7 m c k)
  blk_point [iblk, idx t]

theorem blk_w8 (c : Dev nD) (t : Fin cfg0.N) (k : Fin 1024) : (iblk m c 8 t : Vec Ideal S1x1024 .f32) (ix2 0 k) = m ((c : Thread nD τ).loc main_arg8) (ix1 k) := by
  refine Eq.trans ?_ (V_w8 m c k)
  blk_point [iblk, idx t]

theorem blk_w9 (c : Dev nD) (t : Fin cfg0.N) (k : Fin 1024) : (iblk m c 9 t : Vec Ideal S1x1024 .f32) (ix2 0 k) = m ((c : Thread nD τ).loc main_arg9) (ix1 k) := by
  refine Eq.trans ?_ (V_w9 m c k)
  blk_point [iblk, idx t]

theorem blk_W (c : Dev nD) (t : Fin cfg0.N) (k : Fin 1024) (j : Fin 1024) : (iblk m c 10 t : Vec Ideal S1024x1024 .bf16) (ix2 k j) = m ((c : Thread nD τ).loc main_arg10) (ix2 k j) := by
  refine Eq.trans ?_ (congrFun (V_W m c) _)
  blk_point [iblk, idx t]

theorem blk_U (c : Dev nD) (t : Fin cfg0.N) (k : Fin 1024) (j : Fin 4096) : (iblk m c 11 t : Vec Ideal S1024x4096 .bf16) (ix2 k j) = m ((c : Thread nD τ).loc main_arg11) (ix2 k j) := by
  refine Eq.trans ?_ (congrFun (V_U m c) _)
  blk_point [iblk, idx t]

theorem blk_D (c : Dev nD) (t : Fin cfg0.N) (k : Fin 4096) (j : Fin 1024) : (iblk m c 12 t : Vec Ideal S4096x1024 .bf16) (ix2 k j) = m ((c : Thread nD τ).loc main_arg12) (ix2 k j) := by
  refine Eq.trans ?_ (congrFun (V_D m c) _)
  blk_point [iblk, idx t]

/-! ## The result -/

/-- The reference's result, of the kernel's arguments. -/
def REF (c : Dev nD) : FVec Ideal S8x2048x1024 .f32 :=
  Cert.RefEvenIdeal.Post.secondHalf (m ((c : Thread nD τ).loc main_arg0))
    (Cert.RefEvenIdeal.Post.evenBranch (m ((c : Thread nD τ).loc main_arg1)) (m ((c : Thread nD τ).loc main_arg2)) (m ((c : Thread nD τ).loc main_arg3))
      (m ((c : Thread nD τ).loc main_arg4)) (m ((c : Thread nD τ).loc main_arg6)) (m ((c : Thread nD τ).loc main_arg10)))
    (m ((c : Thread nD τ).loc main_arg5)) (m ((c : Thread nD τ).loc main_arg7)) (m ((c : Thread nD τ).loc main_arg8)) (m ((c : Thread nD τ).loc main_arg9))
    (m ((c : Thread nD τ).loc main_arg11)) (m ((c : Thread nD τ).loc main_arg12))

/-- A stored row is the reference's, for any tile of rows. -/
theorem row_eq (c : Dev nD) (t : Fin cfg0.N) (ht : t.val < 32) (x : Vec Ideal S1x256x1024 .f32) (a : Vec Ideal S1x256x512 .bf16) (f b o : Vec Ideal S1x256x512 .f32) (r : Fin 256) (R : Fin 2048)
    (hx : ∀ i, x (ix3 0 r i) = m ((c : Thread nD τ).loc main_arg0) (ix3 ⟨t.val / 4, by omega⟩ R i))
    (ha : ∀ i, a (ix3 0 r i) = m ((c : Thread nD τ).loc main_arg1) (ix3 ⟨t.val / 4, by omega⟩ R i))
    (hf : ∀ i, f (ix3 0 r i) = m ((c : Thread nD τ).loc main_arg2) (ix3 ⟨t.val / 4, by omega⟩ R i))
    (hb : ∀ i, b (ix3 0 r i) = m ((c : Thread nD τ).loc main_arg3) (ix3 ⟨t.val / 4, by omega⟩ R i))
    (ho : ∀ i, o (ix3 0 r i) = m ((c : Thread nD τ).loc main_arg4) (ix3 ⟨t.val / 4, by omega⟩ R i)) (i : Fin 1024) :
    half (evenPart f b o (iblk m c 6 t) a (iblk m c 10 t)) x (iblk m c 5 t) (iblk m c 7 t) (iblk m c 8 t) (iblk m c 9 t) (iblk m c 11 t) (iblk m c 12 t) (ix3 0 r i)
      = REF m c (ix3 ⟨t.val / 4, by omega⟩ R i) := by
  refine half_eq _ x _ _ _ _ _ _ _ _ _ _ _ _ _ _ r ⟨t.val / 4, by omega⟩ R hx (fun i => ?_) (blk_e m c t ht) (blk_w7 m c t) (blk_w8 m c t) (blk_w9 m c t)
    (blk_U m c t) (blk_D m c t) i
  rw [Cert.RefEvenIdeal.Post.evenBranch_at]
  exact evenPart_of f b o _ a _ r _ _ _ _ _ _ hf hb ho (blk_gm m c t) ha (blk_W m c t) i

theorem point (c : Dev nD) (t : Fin cfg0.N) (y : S1x512x1024.Idx) (j : S8x2048x1024.Idx) (hj0 : (j 0 : ℕ) = t.val / 4) (hj1 : (j 1 : ℕ) = t.val % 4 * 512 + (y 1 : ℕ)) (hj2 : (j 2 : ℕ) = y 2) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
      = REF m c j := by
  have ht : t.val < 32 := lt_of_lt_of_eq t.isLt N_0
  rw [out_eq]
  canon_tiles x h
  · rw [ix3_of x 0 ⟨x 1, x1_lt⟩ ⟨x 2, x2_lt⟩ (Nat.lt_one_iff.1 x0_lt) rfl rfl,
      ix3_of j ⟨t.val / 4, by omega⟩ ⟨t.val % 4 * 512 + (256 + (x 1 : ℕ)), by omega⟩ ⟨x 2, x2_lt⟩ hj0 (by dsimp only; omega) (by dsimp only; omega)]
    exact row_eq m c t ht _ _ _ _ _ ⟨x 1, x1_lt⟩ _ (fun i => (ld_rows1 _ _ i).trans (blk_x m c t ht _ i)) (fun i => (ld_attn1 _ _ i).trans (blk_a m c t ht _ i))
      (fun i => (ld_heads1 _ _ i).trans (blk_f m c t ht _ i)) (fun i => (ld_heads1 _ _ i).trans (blk_b m c t ht _ i)) (fun i => (ld_heads1 _ _ i).trans (blk_o m c t ht _ i)) _
  · rw [ix3_of x 0 ⟨x 1, x1_lt⟩ ⟨x 2, x2_lt⟩ (Nat.lt_one_iff.1 x0_lt) rfl rfl,
      ix3_of j ⟨t.val / 4, by omega⟩ ⟨t.val % 4 * 512 + (x 1 : ℕ), by omega⟩ ⟨x 2, x2_lt⟩ hj0 (by dsimp only; omega) (by dsimp only; omega)]
    exact row_eq m c t ht _ _ _ _ _ ⟨x 1, x1_lt⟩ _ (fun i => (ld_rows0 _ _ i).trans (blk_x m c t ht _ i)) (fun i => (ld_attn0 _ _ i).trans (blk_a m c t ht _ i))
      (fun i => (ld_heads0 _ _ i).trans (blk_f m c t ht _ i)) (fun i => (ld_heads0 _ _ i).trans (blk_b m c t ht _ i)) (fun i => (ld_heads0 _ _ i).trans (blk_o m c t ht _ i)) _

theorem final (c : Dev nD) : (dats m 0 c).arrAt 13 (cfgs 0).N = REF m c := by
  refine (dats m 0 c).arrAt_eq_of_covers 13 _ (by decide +kernel) fun t _ y => ?_
  blk_simp
  rw [after0_13]
  have ht : t.val < 32 := lt_of_lt_of_eq t.isLt N_0
  refine point m c t y _ ?_ ?_ ?_ <;> (blk_simp [idx t] <;> try omega)

end Cert.PostEvenIdeal.Post

end

end
-- ==== Proof.PostOddBlock.lean ====
module

public import proofs.«01_k».proof.Proof.Gen.PostOddIdeal.Value
public import proofs.«01_k».proof.Proof.PostEvenBlock
public import Idealize.ShloMosaic.Lib.Pointwise
public import Idealize.ShloMosaic.Lib.Pipeline.ValueKit

@[expose] public section

set_option maxRecDepth 16384

noncomputable section

namespace Cert.PostOddIdeal.Post

open Cert.PostOddIdeal Cert.PostOddIdeal.Gen Idealize.ShloMosaic Idealize.ShloMosaic.TcCoe Idealize.SL.Sem
open Idealize.ShloMosaic.Pointwise
open Cert.Post
open Cert.PostEvenIdeal.Post (half)

/-! ## One tile of 256 rows -/

/-! ## An odd layer's branch -/

theorem both_at (f b : Vec Ideal S1x256x512 .f32) (r : Fin 256) (k : Fin 512) : k0_pay3 f b (ix2 r k) = f (ix3 0 r k) + b (ix3 0 r k) := by
  pointwise [k0_pay3]

/-- The recurrence's output, gated. -/
theorem gated_at (g h : Vec Ideal S1x256x512 .f32) (r : Fin 256) (k : Fin 512) : k0_pay2 g h (ix2 r k) = gelu (g (ix3 0 r k)) (h (ix3 0 r k)) := by
  pointwise [k0_pay2, gelu]

theorem group0_at (f b : Vec Ideal S1x256x512 .f32) (g : Vec Ideal S1x128 .f32) (r : Fin 256) (l : Fin 128) :
    k0_pay6 (k0_pay4 f b) (k0_pay5 g) (ix2 r l) = grp (fun l => k0_pay3 f b (ix2 r ⟨l.val, by omega⟩)) l * g (ix2 0 l) := by
  pointwise [k0_pay6, k0_pay5, k0_pay4, grp, k0_pay3]

theorem group1_at (v : FVec Ideal S256x512 .f32) (g : Vec Ideal S1x128 .f32) (r : Fin 256) (l : Fin 128) :
    k0_pay7 v g (ix2 r l) = grp (fun l => v (ix2 r ⟨128 + l.val, by omega⟩)) l * g (ix2 0 l) := by
  pointwise [k0_pay7, grp]

theorem group2_at (v : FVec Ideal S256x512 .f32) (g : Vec Ideal S1x128 .f32) (r : Fin 256) (l : Fin 128) :
    k0_pay8 v g (ix2 r l) = grp (fun l => v (ix2 r ⟨256 + l.val, by omega⟩)) l * g (ix2 0 l) := by
  pointwise [k0_pay8, grp]

theorem group3_at (v : FVec Ideal S256x512 .f32) (r : Fin 256) (l : Fin 128) : k0_pay9 v (ix2 r l) = grp (fun l => v (ix2 r ⟨384 + l.val, by omega⟩)) l := by
  pointwise [k0_pay9, grp]

theorem weight3_at (g : Vec Ideal S1x128 .f32) (r : Fin 256) (l : Fin 128) : k0_pay10 g (ix2 r l) = g (ix2 0 l) := by
  pointwise [k0_pay10]

/-- The mixer's output from the groups' arrays. -/
theorem groups_at (a : FVec Ideal S256x512 .f32) (n0 n1 n2 p3 g3 : FVec Ideal S256x128 .f32) (mo : Vec Ideal S1x256x512 .f32) (W0 W1 : Vec Ideal S512x1024 .bf16) (r : Fin 256) (i : Fin 1024) :
    k0_pay11 a n0 n1 n2 p3 g3 mo W0 W1 (ix2 r i)
      = (∑ k : Fin 512, a (ix2 r k) * W0 (ix2 k i)) + ∑ k : Fin 512, pick (fun l => n0 (ix2 r l)) (fun l => n1 (ix2 r l)) (fun l => n2 (ix2 r l))
          (fun l => p3 (ix2 r l) * g3 (ix2 r l)) k * (mo (ix3 0 r k) * Ideal.logistic (mo (ix3 0 r k))) * W1 (ix2 k i) := by
  pointwise [k0_pay11, pick]

/-- The branch of 256 rows of an odd layer. -/
def oddPart (h g f b mo : Vec Ideal S1x256x512 .f32) (gm : Vec Ideal S1x512 .f32) (W : Vec Ideal S1024x1024 .bf16) : FVec Ideal S256x1024 .f32 :=
  k0_pay11 (k0_pay2 g h) (k0_pay6 (k0_pay4 f b) (k0_pay5 (View.ld gm r0_1))) (k0_pay7 (k0_pay3 f b) (View.ld gm r0_2)) (k0_pay8 (k0_pay3 f b) (View.ld gm r0_3)) (k0_pay9 (k0_pay3 f b))
    (k0_pay10 (View.ld gm r0_4)) mo (View.ld W r0_5) (View.ld W r0_6)

/-- It is the odd layer's branch of the rows that the blocks hold. -/
theorem oddPart_of (h g f b mo : Vec Ideal S1x256x512 .f32) (gm : Vec Ideal S1x512 .f32) (W : Vec Ideal S1024x1024 .bf16) (r : Fin 256)
    (hr gr fr br mr wr : Fin 512 → EReal) (M : Fin 1024 → Fin 1024 → EReal) (hh : ∀ k, h (ix3 0 r k) = hr k) (hg : ∀ k, g (ix3 0 r k) = gr k)
    (hf : ∀ k, f (ix3 0 r k) = fr k) (hb : ∀ k, b (ix3 0 r k) = br k) (hm : ∀ k, mo (ix3 0 r k) = mr k)
    (hw : ∀ k, gm (ix2 0 k) = wr k) (hW : ∀ k j, W (ix2 k j) = M k j) (i : Fin 1024) :
    oddPart h g f b mo gm W (ix2 r i) = branch (fun k => gelu (gr k) (hr k)) (fun k => heads (fun k => fr k + br k) wr k * (mr k * Ideal.logistic (mr k))) M i := by
  obtain rfl : (fun k => h (ix3 0 r k)) = hr := funext hh
  obtain rfl : (fun k => g (ix3 0 r k)) = gr := funext hg
  obtain rfl : (fun k => f (ix3 0 r k)) = fr := funext hf
  obtain rfl : (fun k => b (ix3 0 r k)) = br := funext hb
  obtain rfl : (fun k => mo (ix3 0 r k)) = mr := funext hm
  obtain rfl : (fun k => gm (ix2 0 k)) = wr := funext hw
  obtain rfl : (fun k j => W (ix2 k j)) = M := funext fun k => funext (hW k)
  have e : ∀ k, pick (fun l => k0_pay6 (k0_pay4 f b) (k0_pay5 (View.ld gm r0_1)) (ix2 r l)) (fun l => k0_pay7 (k0_pay3 f b) (View.ld gm r0_2) (ix2 r l))
      (fun l => k0_pay8 (k0_pay3 f b) (View.ld gm r0_3) (ix2 r l)) (fun l => k0_pay9 (k0_pay3 f b) (ix2 r l) * k0_pay10 (View.ld gm r0_4) (ix2 r l)) k
        = heads (fun k => k0_pay3 f b (ix2 r k)) (fun k => gm (ix2 0 k)) k := by
    refine pick_eq _ _ _ _ _ _ (fun l => ?_) (fun l => ?_) (fun l => ?_) (fun l => ?_)
    · exact (group0_at f b _ r l).trans (congrArg (fun z => _ * z) (Cert.PostEvenIdeal.Post.ld_group0 gm l))
    · exact (group1_at _ _ r l).trans (congrArg (fun z => _ * z) (Cert.PostEvenIdeal.Post.ld_group1 gm l))
    · exact (group2_at _ _ r l).trans (congrArg (fun z => _ * z) (Cert.PostEvenIdeal.Post.ld_group2 gm l))
    · exact congrArg₂ (fun p q : EReal => p * q) (group3_at _ r l) ((weight3_at _ r l).trans (Cert.PostEvenIdeal.Post.ld_group3 gm l))
  rw [oddPart, groups_at]
  refine congrArg₂ (fun p q : EReal => p + q) (Finset.sum_congr rfl fun k _ => congrArg₂ (fun p q : EReal => p * q) (gated_at g h r k) (Cert.PostEvenIdeal.Post.ld_wlow W k i))
    (Finset.sum_congr rfl fun k _ => congrArg₂ (fun p q : EReal => p * q) (congrArg (fun z => z * (mo (ix3 0 r k) * Ideal.logistic (mo (ix3 0 r k)))) ((e k).trans ?_))
      (Cert.PostEvenIdeal.Post.ld_whigh W k i))
  simp only [both_at]

/-- The kernel's block: two stores of 256 rows, of the same second half as the even layers'. -/
theorem out_eq (x0 : Vec Ideal S1x512x1024 .f32) (x1 x2 x3 x4 x5 : Vec Ideal S1x512x512 .f32) (x6 : Vec Ideal S1x6x1x1024 .f32)
    (x7 : Vec Ideal S1x512 .f32) (x8 x9 x10 : Vec Ideal S1x1024 .f32) (x11 : Vec Ideal S1024x1024 .bf16) (x12 : Vec Ideal S1024x4096 .bf16) (x13 : Vec Ideal S4096x1024 .bf16) :
    out0_14 x0 x1 x2 x3 x4 x5 x6 x7 x8 x9 x10 x11 x12 x13 = View.canon
      [⟨r0_22, half (oddPart (View.ld x1 r0_7) (View.ld x2 r0_7) (View.ld x3 r0_7) (View.ld x4 r0_7) (View.ld x5 r0_7) x7 x11) (View.ld x0 r0_22) x6 x8 x9 x10 x12 x13⟩,
       ⟨r0_8, half (oddPart (View.ld x1 r0_0) (View.ld x2 r0_0) (View.ld x3 r0_0) (View.ld x4 r0_0) (View.ld x5 r0_0) x7 x11) (View.ld x0 r0_8) x6 x8 x9 x10 x12 x13⟩] := by
  rfl

end Cert.PostOddIdeal.Post

end

end
-- ==== Proof.PostOddFinal.lean ====
module

public import proofs.«01_k».proof.Proof.Gen.PostOddIdeal
public import proofs.«01_k».proof.Proof.PostRows
public import proofs.«01_k».proof.Proof.PostOddBlock
public import Idealize.ShloMosaic.Lib.Claim

@[expose] public section

set_option maxRecDepth 16384

noncomputable section

namespace Cert.PostOddIdeal.Post

open Cert.PostOddIdeal Cert.PostOddIdeal.Gen Idealize.ShloMosaic Idealize.ShloMosaic.TcCoe Idealize.SL.Sem
open Idealize.ShloMosaic.Pointwise
open Cert.Post
open Cert.PostEvenIdeal.Post (half ix3_of ld_rows0 ld_rows1 ld_heads0 ld_heads1)

variable (m : (ℓ : Loc nD τ sig) → Buf (Elt Ideal) ℓ)

/-! ## The blocks of an odd layer -/

theorem idx : ∀ t : Fin cfg0.N, (win0_0.index t = ![t.val / 4, t.val % 4, 0] ∧ win0_1.index t = ![t.val / 4, t.val % 4, 0]
    ∧ win0_2.index t = ![t.val / 4, t.val % 4, 0] ∧ win0_3.index t = ![t.val / 4, t.val % 4, 0] ∧ win0_4.index t = ![t.val / 4, t.val % 4, 0]
    ∧ win0_5.index t = ![t.val / 4, t.val % 4, 0] ∧ win0_14.index t = ![t.val / 4, t.val % 4, 0])
    ∧ win0_6.index t = ![1 + t.val / 4, 0, 0, 0] ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] :=
  (by decide +kernel : ∀ t : Fin grid0.N, _)

/-- The rows of the layer's input. -/
theorem blk_x (c : Dev nD) (t : Fin cfg0.N) (ht : t.val < 32) (r : Fin 512) (i : Fin 1024) :
    (iblk m c 0 t : Vec Ideal S1x512x1024 .f32) (ix3 0 r i) = m ((c : Thread nD τ).loc main_arg0) (ix3 ⟨t.val / 4, by omega⟩ ⟨t.val % 4 * 512 + r.val, by omega⟩ i) := by
  refine Eq.trans ?_ (congrFun (show V m c main_arg0 = m ((c : Thread nD τ).loc main_arg0) from rfl) _)
  blk_point [iblk, idx t]

theorem blk_h (c : Dev nD) (t : Fin cfg0.N) (ht : t.val < 32) (r : Fin 512) (i : Fin 512) :
    (iblk m c 1 t : Vec Ideal S1x512x512 .f32) (ix3 0 r i) = m ((c : Thread nD τ).loc main_arg1) (ix3 ⟨t.val / 4, by omega⟩ ⟨t.val % 4 * 512 + r.val, by omega⟩ i) := by
  refine Eq.trans ?_ (congrFun (show V m c main_arg1 = m ((c : Thread nD τ).loc main_arg1) from rfl) _)
  blk_point [iblk, idx t]

theorem blk_g (c : Dev nD) (t : Fin cfg0.N) (ht : t.val < 32) (r : Fin 512) (i : Fin 512) :
    (iblk m c 2 t : Vec Ideal S1x512x512 .f32) (ix3 0 r i) = m ((c : Thread nD τ).loc main_arg2) (ix3 ⟨t.val / 4, by omega⟩ ⟨t.val % 4 * 512 + r.val, by omega⟩ i) := by
  refine Eq.trans ?_ (congrFun (show V m c main_arg2 = m ((c : Thread nD τ).loc main_arg2) from rfl) _)
  blk_point [iblk, idx t]

theorem blk_f (c : Dev nD) (t : Fin cfg0.N) (ht : t.val < 32) (r : Fin 512) (i : Fin 512) :
    (iblk m c 3 t : Vec Ideal S1x512x512 .f32) (ix3 0 r i) = m ((c : Thread nD τ).loc main_arg3) (ix3 ⟨t.val / 4, by omega⟩ ⟨t.val % 4 * 512 + r.val, by omega⟩ i) := by
  refine Eq.trans ?_ (congrFun (show V m c main_arg3 = m ((c : Thread nD τ).loc main_arg3) from rfl) _)
  blk_point [iblk, idx t]

theorem blk_b (c : Dev nD) (t : Fin cfg0.N) (ht : t.val < 32) (r : Fin 512) (i : Fin 512) :
    (iblk m c 4 t : Vec Ideal S1x512x512 .f32) (ix3 0 r i) = m ((c : Thread nD τ).loc main_arg4) (ix3 ⟨t.val / 4, by omega⟩ ⟨t.val % 4 * 512 + r.val, by omega⟩ i) := by
  refine Eq.trans ?_ (congrFun (show V m c main_arg4 = m ((c : Thread nD τ).loc main_arg4) from rfl) _)
  blk_point [iblk, idx t]

theorem blk_o (c : Dev nD) (t : Fin cfg0.N) (ht : t.val < 32) (r : Fin 512) (i : Fin 512) :
    (iblk m c 5 t : Vec Ideal S1x512x512 .f32) (ix3 0 r i) = m ((c : Thread nD τ).loc main_arg5) (ix3 ⟨t.val / 4, by omega⟩ ⟨t.val % 4 * 512 + r.val, by omega⟩ i) := by
  refine Eq.trans ?_ (congrFun (show V m c main_arg5 = m ((c : Thread nD τ).loc main_arg5) from rfl) _)
  blk_point [iblk, idx t]

/-- The batch's modulation. -/
theorem blk_e (c : Dev nD) (t : Fin cfg0.N) (ht : t.val < 32) (q : Fin 6) (i : Fin 1024) :
    (iblk m c 6 t : Vec Ideal S1x6x1x1024 .f32) (ix4 0 q 0 i) = m ((c : Thread nD τ).loc main_arg6) (ix2 ⟨1 + t.val / 4, by omega⟩ ⟨q.val * 1024 + i.val, by omega⟩) := by
  refine Eq.trans (b := V m c main_v0 (ix4 ⟨1 + t.val / 4, by omega⟩ q 0 i)) (by blk_point [iblk, idx t]) ?_
  entry_read
  pointwise
  blk_ext

theorem blk_w7 (c : Dev nD) (t : Fin cfg0.N) (k : Fin 512) : (iblk m c 7 t : Vec Ideal S1x512 .f32) (ix2 0 k) = m ((c : Thread nD τ).loc main_arg7) (ix1 k) := by
  refine Eq.trans (b := V m c main_v1 (ix2 0 k)) (by blk_point [iblk, idx t]) ?_
  entry_read
  pointwise

theorem blk_w8 (c : Dev nD) (t : Fin cfg0.N) (k : Fin 1024) : (iblk m c 8 t : Vec Ideal S1x1024 .f32) (ix2 0 k) = m ((c : Thread nD τ).loc main_arg8) (ix1 k) := by
  refine Eq.trans (b := V m c main_v2 (ix2 0 k)) (by blk_point [iblk, idx t]) ?_
  entry_read
  pointwise

theorem blk_w9 (c : Dev nD) (t : Fin cfg0.N) (k : Fin 1024) : (iblk m c 9 t : Vec Ideal S1x1024 .f32) (ix2 0 k) = m ((c : Thread nD τ).loc main_arg9) (ix1 k) := by
  refine Eq.trans (b := V m c main_v3 (ix2 0 k)) (by blk_point [iblk, idx t]) ?_
  entry_read
  pointwise

theorem blk_w10 (c : Dev nD) (t : Fin cfg0.N) (k : Fin 1024) : (iblk m c 10 t : Vec Ideal S1x1024 .f32) (ix2 0 k) = m ((c : Thread nD τ).loc main_arg10) (ix1 k) := by
  refine Eq.trans (b := V m c main_v4 (ix2 0 k)) (by blk_point [iblk, idx t]) ?_
  entry_read
  pointwise

theorem blk_W (c : Dev nD) (t : Fin cfg0.N) (k : Fin 1024) (j : Fin 1024) : (iblk m c 11 t : Vec Ideal S1024x1024 .bf16) (ix2 k j) = m ((c : Thread nD τ).loc main_arg11) (ix2 k j) := by
  refine Eq.trans ?_ (congrFun (show V m c main_v5 = m ((c : Thread nD τ).loc main_arg11) from rfl) _)
  blk_point [iblk, idx t]

theorem blk_U (c : Dev nD) (t : Fin cfg0.N) (k : Fin 1024) (j : Fin 4096) : (iblk m c 12 t : Vec Ideal S1024x4096 .bf16) (ix2 k j) = m ((c : Thread nD τ).loc main_arg12) (ix2 k j) := by
  refine Eq.trans ?_ (congrFun (show V m c main_v6 = m ((c : Thread nD τ).loc main_arg12) from rfl) _)
  blk_point [iblk, idx t]

theorem blk_D (c : Dev nD) (t : Fin cfg0.N) (k : Fin 4096) (j : Fin 1024) : (iblk m c 13 t : Vec Ideal S4096x1024 .bf16) (ix2 k j) = m ((c : Thread nD τ).loc main_arg13) (ix2 k j) := by
  refine Eq.trans ?_ (congrFun (show V m c main_v7 = m ((c : Thread nD τ).loc main_arg13) from rfl) _)
  blk_point [iblk, idx t]

/-! ## The result of an odd layer -/

/-- The reference's result, of the kernel's arguments. -/
def REF (c : Dev nD) : FVec Ideal S8x2048x1024 .f32 :=
  Cert.RefEvenIdeal.Post.secondHalf (m ((c : Thread nD τ).loc main_arg0))
    (Cert.RefEvenIdeal.Post.oddBranch (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg7)) (m ((c : Thread nD τ).loc main_arg11)))
    (m ((c : Thread nD τ).loc main_arg6)) (m ((c : Thread nD τ).loc main_arg8)) (m ((c : Thread nD τ).loc main_arg9)) (m ((c : Thread nD τ).loc main_arg10))
    (m ((c : Thread nD τ).loc main_arg12)) (m ((c : Thread nD τ).loc main_arg13))

/-- A stored row is the reference's, for any tile of rows. -/
theorem row_eq (c : Dev nD) (t : Fin cfg0.N) (ht : t.val < 32) (x : Vec Ideal S1x256x1024 .f32) (h g f b o : Vec Ideal S1x256x512 .f32) (r : Fin 256) (R : Fin 2048)
    (hx : ∀ i, x (ix3 0 r i) = m ((c : Thread nD τ).loc main_arg0) (ix3 ⟨t.val / 4, by omega⟩ R i))
    (hh : ∀ i, h (ix3 0 r i) = m ((c : Thread nD τ).loc main_arg1) (ix3 ⟨t.val / 4, by omega⟩ R i))
    (hg : ∀ i, g (ix3 0 r i) = m ((c : Thread nD τ).loc main_arg2) (ix3 ⟨t.val / 4, by omega⟩ R i))
    (hf : ∀ i, f (ix3 0 r i) = m ((c : Thread nD τ).loc main_arg3) (ix3 ⟨t.val / 4, by omega⟩ R i))
    (hb : ∀ i, b (ix3 0 r i) = m ((c : Thread nD τ).loc main_arg4) (ix3 ⟨t.val / 4, by omega⟩ R i))
    (ho : ∀ i, o (ix3 0 r i) = m ((c : Thread nD τ).loc main_arg5) (ix3 ⟨t.val / 4, by omega⟩ R i)) (i : Fin 1024) :
    half (oddPart h g f b o (iblk m c 7 t) (iblk m c 11 t)) x (iblk m c 6 t) (iblk m c 8 t) (iblk m c 9 t) (iblk m c 10 t) (iblk m c 12 t) (iblk m c 13 t) (ix3 0 r i)
      = REF m c (ix3 ⟨t.val / 4, by omega⟩ R i) := by
  refine half_eq _ x _ _ _ _ _ _ _ _ _ _ _ _ _ _ r ⟨t.val / 4, by omega⟩ R hx (fun i => ?_) (blk_e m c t ht) (blk_w8 m c t) (blk_w9 m c t) (blk_w10 m c t)
    (blk_U m c t) (blk_D m c t) i
  rw [Cert.RefEvenIdeal.Post.oddBranch_at]
  exact oddPart_of h g f b o _ _ r _ _ _ _ _ _ _ hh hg hf hb ho (blk_w7 m c t) (blk_W m c t) i

theorem point (c : Dev nD) (t : Fin cfg0.N) (y : S1x512x1024.Idx) (j : S8x2048x1024.Idx) (hj0 : (j 0 : ℕ) = t.val / 4) (hj1 : (j 1 : ℕ) = t.val % 4 * 512 + (y 1 : ℕ)) (hj2 : (j 2 : ℕ) = y 2) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
      = REF m c j := by
  have ht : t.val < 32 := lt_of_lt_of_eq t.isLt N_0
  rw [out_eq]
  canon_tiles x h
  · rw [ix3_of x 0 ⟨x 1, x1_lt⟩ ⟨x 2, x2_lt⟩ (Nat.lt_one_iff.1 x0_lt) rfl rfl,
      ix3_of j ⟨t.val / 4, by omega⟩ ⟨t.val % 4 * 512 + (256 + (x 1 : ℕ)), by omega⟩ ⟨x 2, x2_lt⟩ hj0 (by dsimp only; omega) (by dsimp only; omega)]
    exact row_eq m c t ht _ _ _ _ _ _ ⟨x 1, x1_lt⟩ _ (fun i => (ld_rows1 _ _ i).trans (blk_x m c t ht _ i)) (fun i => (ld_heads1 _ _ i).trans (blk_h m c t ht _ i))
      (fun i => (ld_heads1 _ _ i).trans (blk_g m c t ht _ i)) (fun i => (ld_heads1 _ _ i).trans (blk_f m c t ht _ i))
      (fun i => (ld_heads1 _ _ i).trans (blk_b m c t ht _ i)) (fun i => (ld_heads1 _ _ i).trans (blk_o m c t ht _ i)) _
  · rw [ix3_of x 0 ⟨x 1, x1_lt⟩ ⟨x 2, x2_lt⟩ (Nat.lt_one_iff.1 x0_lt) rfl rfl,
      ix3_of j ⟨t.val / 4, by omega⟩ ⟨t.val % 4 * 512 + (x 1 : ℕ), by omega⟩ ⟨x 2, x2_lt⟩ hj0 (by dsimp only; omega) (by dsimp only; omega)]
    exact row_eq m c t ht _ _ _ _ _ _ ⟨x 1, x1_lt⟩ _ (fun i => (ld_rows0 _ _ i).trans (blk_x m c t ht _ i)) (fun i => (ld_heads0 _ _ i).trans (blk_h m c t ht _ i))
      (fun i => (ld_heads0 _ _ i).trans (blk_g m c t ht _ i)) (fun i => (ld_heads0 _ _ i).trans (blk_f m c t ht _ i))
      (fun i => (ld_heads0 _ _ i).trans (blk_b m c t ht _ i)) (fun i => (ld_heads0 _ _ i).trans (blk_o m c t ht _ i)) _

theorem final (c : Dev nD) : (dats m 0 c).arrAt 14 (cfgs 0).N = REF m c := by
  refine (dats m 0 c).arrAt_eq_of_covers 14 _ (by decide +kernel) fun t _ y => ?_
  blk_simp
  rw [after0_14]
  have ht : t.val < 32 := lt_of_lt_of_eq t.isLt N_0
  refine point m c t y _ ?_ ?_ ?_ <;> (blk_simp [idx t] <;> try omega)

end Cert.PostOddIdeal.Post

end

end
-- ==== Proof.PostClaims.lean ====
module

public import proofs.«01_k».proof.Proof.Gen.RefEvenIdeal
public import proofs.«01_k».proof.Proof.Gen.RefEvenIdeal.Run
public import proofs.«01_k».proof.Proof.Gen.RefOddIdeal.Run
public import proofs.«01_k».proof.Proof.PostEvenFinal
public import proofs.«01_k».proof.Proof.PostOddFinal
public import Idealize.ShloMosaic.Lib.Claim
public import proofs.«01_k».proof.Proof.Gen.RefOddIdeal
public import proofs.«01_k».proof.Defs

@[expose] public section

set_option maxRecDepth 16384

noncomputable section

namespace Cert.Post

open Idealize.ShloMosaic Idealize.ShloMosaic.TcCoe Idealize.SL.Sem

/-- The even layers' second half computes its reference. -/
theorem algebraic_even : Cert.algebraic_PostEvenIdeal_RefEvenIdeal := by
  pair_intro
  · run_from Cert.PostEvenIdeal.Value.run_blocks m g
  · refine (θ_run _ _ _).mono (fun r h c => ⟨(h c).1.trans ?_, (h c).2⟩) (Cert.RefEvenIdeal.Value.run (F := Ideal) m' g')
    refine Eq.trans ?_ (Cert.PostEvenIdeal.Post.final m c).symm
    refine Eq.trans (b := Cert.RefEvenIdeal.Post.secondHalf (m' ((c.tc : Thread Cert.RefEvenIdeal.nD Cert.RefEvenIdeal.τ).loc Cert.RefEvenIdeal.main_arg0))
      (Cert.RefEvenIdeal.Post.evenBranch (m' ((c.tc : Thread Cert.RefEvenIdeal.nD Cert.RefEvenIdeal.τ).loc Cert.RefEvenIdeal.main_arg1)) (m' ((c.tc : Thread Cert.RefEvenIdeal.nD Cert.RefEvenIdeal.τ).loc Cert.RefEvenIdeal.main_arg2)) (m' ((c.tc : Thread Cert.RefEvenIdeal.nD Cert.RefEvenIdeal.τ).loc Cert.RefEvenIdeal.main_arg3)) (m' ((c.tc : Thread Cert.RefEvenIdeal.nD Cert.RefEvenIdeal.τ).loc Cert.RefEvenIdeal.main_arg4)) (m' ((c.tc : Thread Cert.RefEvenIdeal.nD Cert.RefEvenIdeal.τ).loc Cert.RefEvenIdeal.main_arg6)) (m' ((c.tc : Thread Cert.RefEvenIdeal.nD Cert.RefEvenIdeal.τ).loc Cert.RefEvenIdeal.main_arg10)))
      (m' ((c.tc : Thread Cert.RefEvenIdeal.nD Cert.RefEvenIdeal.τ).loc Cert.RefEvenIdeal.main_arg5)) (m' ((c.tc : Thread Cert.RefEvenIdeal.nD Cert.RefEvenIdeal.τ).loc Cert.RefEvenIdeal.main_arg7)) (m' ((c.tc : Thread Cert.RefEvenIdeal.nD Cert.RefEvenIdeal.τ).loc Cert.RefEvenIdeal.main_arg8)) (m' ((c.tc : Thread Cert.RefEvenIdeal.nD Cert.RefEvenIdeal.τ).loc Cert.RefEvenIdeal.main_arg9)) (m' ((c.tc : Thread Cert.RefEvenIdeal.nD Cert.RefEvenIdeal.τ).loc Cert.RefEvenIdeal.main_arg11)) (m' ((c.tc : Thread Cert.RefEvenIdeal.nD Cert.RefEvenIdeal.τ).loc Cert.RefEvenIdeal.main_arg12))) rfl ?_
    obtain ⟨h0, h1, h2, h3, h4, h5, h6, h7, h8, h9, h10, h11, h12⟩ := hagree c
    rw [h0, h1, h2, h3, h4, h5, h6, h7, h8, h9, h10, h11, h12]
    rfl

/-- The odd layers' second half computes its reference. -/
theorem algebraic_odd : Cert.algebraic_PostOddIdeal_RefOddIdeal := by
  pair_intro
  · run_from Cert.PostOddIdeal.Value.run_blocks m g
  · refine (θ_run _ _ _).mono (fun r h c => ⟨(h c).1.trans ?_, (h c).2⟩) (Cert.RefOddIdeal.Value.run (F := Ideal) m' g')
    refine Eq.trans ?_ (Cert.PostOddIdeal.Post.final m c).symm
    refine Eq.trans (b := Cert.RefEvenIdeal.Post.secondHalf (m' ((c.tc : Thread Cert.RefOddIdeal.nD Cert.RefOddIdeal.τ).loc Cert.RefOddIdeal.main_arg0))
      (Cert.RefEvenIdeal.Post.oddBranch (m' ((c.tc : Thread Cert.RefOddIdeal.nD Cert.RefOddIdeal.τ).loc Cert.RefOddIdeal.main_arg1)) (m' ((c.tc : Thread Cert.RefOddIdeal.nD Cert.RefOddIdeal.τ).loc Cert.RefOddIdeal.main_arg2)) (m' ((c.tc : Thread Cert.RefOddIdeal.nD Cert.RefOddIdeal.τ).loc Cert.RefOddIdeal.main_arg3)) (m' ((c.tc : Thread Cert.RefOddIdeal.nD Cert.RefOddIdeal.τ).loc Cert.RefOddIdeal.main_arg4)) (m' ((c.tc : Thread Cert.RefOddIdeal.nD Cert.RefOddIdeal.τ).loc Cert.RefOddIdeal.main_arg5)) (m' ((c.tc : Thread Cert.RefOddIdeal.nD Cert.RefOddIdeal.τ).loc Cert.RefOddIdeal.main_arg7)) (m' ((c.tc : Thread Cert.RefOddIdeal.nD Cert.RefOddIdeal.τ).loc Cert.RefOddIdeal.main_arg11)))
      (m' ((c.tc : Thread Cert.RefOddIdeal.nD Cert.RefOddIdeal.τ).loc Cert.RefOddIdeal.main_arg6)) (m' ((c.tc : Thread Cert.RefOddIdeal.nD Cert.RefOddIdeal.τ).loc Cert.RefOddIdeal.main_arg8)) (m' ((c.tc : Thread Cert.RefOddIdeal.nD Cert.RefOddIdeal.τ).loc Cert.RefOddIdeal.main_arg9)) (m' ((c.tc : Thread Cert.RefOddIdeal.nD Cert.RefOddIdeal.τ).loc Cert.RefOddIdeal.main_arg10)) (m' ((c.tc : Thread Cert.RefOddIdeal.nD Cert.RefOddIdeal.τ).loc Cert.RefOddIdeal.main_arg12)) (m' ((c.tc : Thread Cert.RefOddIdeal.nD Cert.RefOddIdeal.τ).loc Cert.RefOddIdeal.main_arg13))) rfl ?_
    obtain ⟨h0, h1, h2, h3, h4, h5, h6, h7, h8, h9, h10, h11, h12, h13⟩ := hagree c
    rw [h0, h1, h2, h3, h4, h5, h6, h7, h8, h9, h10, h11, h12, h13]
    rfl

end Cert.Post

end

end
-- ==== Proof.AttnMath.lean ====
module

public import Idealize.ShloMosaic.Lib.Pointwise

@[expose] public section

set_option maxRecDepth 16384

noncomputable section

namespace Cert.Attn

open Idealize.ShloMosaic

/-! ## Sums of extended reals -/

/-- A factor that is a real, not negative, goes into a finite sum of extended reals. -/
theorem sum_mul_real {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih,
      EReal.right_distrib_of_nonneg_of_ne_top (by exact_mod_cast hc) (EReal.coe_ne_top c)]

/-- The greatest of finitely many extended reals, scaled by a positive real, is the greatest of the scaled ones. -/
theorem sup_mul_real {ι : Type*} (s : Finset ι) (f : ι → EReal) (c : ℝ) (hc : 0 < c) :
    s.sup (fun i => f i * (c : EReal)) = s.sup f * (c : EReal) := by
  have hm : Monotone fun x : EReal => x * (c : EReal) := fun a b h =>
    mul_le_mul_of_nonneg_right h (by exact_mod_cast hc.le)
  exact (Finset.comp_sup_eq_sup_comp (fun x : EReal => x * (c : EReal)) (fun a b => hm.map_sup a b)
    (EReal.bot_mul_coe_of_pos hc)).symm

/-- The running maximum from minus infinity is the least upper bound. -/
theorem fold_max_eq_sup {ι : Type*} (s : Finset ι) (f : ι → EReal) : s.fold max ⊥ f = s.sup f := rfl

/-- A sum over 2560 indices is one over the first 512 and one over the last 2048. -/
theorem sum_ctx_own (f : Fin 2560 → EReal) :
    ∑ j, f j = (∑ j : Fin 512, f ⟨j.val, by omega⟩) + ∑ j : Fin 2048, f ⟨512 + j.val, by omega⟩ :=
  Fin.sum_univ_add (a := 512) (b := 2048) f

/-- The greatest of 2560 scores is the greater of the greatest of the first 512 and the greatest of the last 2048. -/
theorem sup_ctx_own (f : Fin 2560 → EReal) :
    Finset.univ.sup f = max (Finset.univ.sup fun j : Fin 512 => f ⟨j.val, by omega⟩)
      (Finset.univ.sup fun j : Fin 2048 => f ⟨512 + j.val, by omega⟩) := by
  apply le_antisymm
  · refine Finset.sup_le fun j _ => ?_
    by_cases h : j.val < 512
    · exact le_max_of_le_left (Finset.le_sup (f := fun j : Fin 512 => f ⟨j.val, by omega⟩) (Finset.mem_univ ⟨j.val, h⟩))
    · have e : f j = (fun j : Fin 2048 => f ⟨512 + j.val, by omega⟩) ⟨j.val - 512, by omega⟩ := by
        show f j = f _
        congr 1
        exact Fin.ext (by show j.val = 512 + (j.val - 512); omega)
      rw [e]
      exact le_max_of_le_right (Finset.le_sup (f := fun j : Fin 2048 => f ⟨512 + j.val, by omega⟩) (Finset.mem_univ _))
  · exact max_le (Finset.sup_le fun j _ => Finset.le_sup (f := f) (Finset.mem_univ _))
      (Finset.sup_le fun j _ => Finset.le_sup (f := f) (Finset.mem_univ _))

/-! ## One query row of one head -/

/-- The kernel's weighted sum over the own keys and the cached ones: powers of two of the scores less their maximum. -/
def wsum (m : EReal) (s : Fin 2048 → EReal) (t : Fin 512 → EReal) (v : Fin 2048 → EReal) (w : Fin 512 → EReal) : EReal :=
  (∑ j, Ideal.exp2 (s j - m) * v j) + ∑ j, Ideal.exp2 (t j - m) * w j

/-- The kernel's maximum over the own keys and the cached ones. -/
def smax (s : Fin 2048 → EReal) (t : Fin 512 → EReal) : EReal :=
  max (Finset.univ.fold max ⊥ s) (Finset.univ.fold max ⊥ t)

/-- One element of the kernel's output: values `v`, `w` against the column `d`, `e` that sums the weights. -/
def unit (s : Fin 2048 → EReal) (t : Fin 512 → EReal) (v : Fin 2048 → EReal) (w : Fin 512 → EReal)
    (d : Fin 2048 → EReal) (e : Fin 512 → EReal) : EReal :=
  Ideal.div (wsum (smax s t) s t v w) (wsum (smax s t) s t d e)

/-- One element of the attention as the reference writes it: the softmax of the scores, then the product with the values. -/
def soft (S V : Fin 2560 → EReal) : EReal :=
  ∑ j, V j * Ideal.div (Ideal.exp (S j - max ⊥ (Finset.univ.fold max ⊥ S)))
    (∑ i, Ideal.exp (S i - max ⊥ (Finset.univ.fold max ⊥ S)))

/-- `2 ^ (a / log 2 - b / log 2)` is `exp (a - b)`. -/
theorem exp2_scaled (a b : ℝ) :
    Ideal.exp2 ((a : EReal) * ((Real.log 2)⁻¹ : ℝ) - (b : EReal) * ((Real.log 2)⁻¹ : ℝ)) = ((Real.exp (a - b) : ℝ) : EReal) := by
  have h2 : Real.log 2 ≠ 0 := (Real.log_pos (by norm_num)).ne'
  rw [← EReal.coe_mul, ← EReal.coe_mul, ← EReal.coe_sub, Ideal.exp2_coe]
  congr 1
  show (2 : ℝ) ^ (a * (Real.log 2)⁻¹ - b * (Real.log 2)⁻¹) = _
  rw [Real.rpow_def_of_pos (by norm_num)]
  congr 1
  field_simp

/-- The kernel's element is the reference's, at real scores: powers of two of scores over `log 2` are exponentials, and
    the quotient by the positive real sum of the weights may be taken before the product with the values or after it. -/
theorem unit_eq_soft (S : Fin 2560 → ℝ) (V : Fin 2560 → EReal) (s : Fin 2048 → EReal) (t : Fin 512 → EReal)
    (v d : Fin 2048 → EReal) (w e : Fin 512 → EReal)
    (hs : ∀ j, s j = (S ⟨512 + j.val, by omega⟩ : EReal) * ((Real.log 2)⁻¹ : ℝ))
    (ht : ∀ j, t j = (S ⟨j.val, by omega⟩ : EReal) * ((Real.log 2)⁻¹ : ℝ))
    (hv : ∀ j, v j = V ⟨512 + j.val, by omega⟩) (hw : ∀ j, w j = V ⟨j.val, by omega⟩)
    (hd : ∀ j, d j = 1) (he : ∀ j, e j = 1) :
    unit s t v w d e = soft (fun j => (S j : EReal)) V := by
  have h2 : 0 < (Real.log 2)⁻¹ := inv_pos.2 (Real.log_pos (by norm_num))
  obtain ⟨i0, -, hi0⟩ := Finset.exists_mem_eq_sup (Finset.univ : Finset (Fin 2560)) ⟨0, Finset.mem_univ _⟩ fun j => (S j : EReal)
  have hM : max ⊥ (Finset.univ.fold max ⊥ fun j => (S j : EReal)) = (S i0 : EReal) := by
    rw [fold_max_eq_sup, hi0]
    exact bot_sup_eq _
  have hm : smax s t = (S i0 : EReal) * ((Real.log 2)⁻¹ : ℝ) := by
    rw [smax, fold_max_eq_sup, fold_max_eq_sup, ← hi0, ← sup_mul_real _ _ _ h2, sup_ctx_own (fun j => (S j : EReal) * ((Real.log 2)⁻¹ : ℝ)), max_comm, funext hs, funext ht]
  have hws : ∀ (f : Fin 2560 → EReal) (a : Fin 2048 → EReal) (b : Fin 512 → EReal),
      (∀ j, a j = f ⟨512 + j.val, by omega⟩) → (∀ j, b j = f ⟨j.val, by omega⟩) →
      wsum (smax s t) s t a b = ∑ j, ((Real.exp (S j - S i0) : ℝ) : EReal) * f j := by
    intro f a b ha hb
    rw [wsum, sum_ctx_own (fun j => ((Real.exp (S j - S i0) : ℝ) : EReal) * f j), add_comm, hm]
    refine congrArg₂ (· + ·) (Finset.sum_congr rfl fun j _ => ?_) (Finset.sum_congr rfl fun j _ => ?_)
    · rw [hb, ht, exp2_scaled]
    · rw [ha, hs, exp2_scaled]
  have hsum : ∑ j, ((Real.exp (S j - S i0) : ℝ) : EReal) = ((∑ j, Real.exp (S j - S i0) : ℝ) : EReal) :=
    (map_sum (⟨⟨(fun x : ℝ => (x : EReal)), EReal.coe_zero⟩, EReal.coe_add⟩ : ℝ →+ EReal) _ _).symm
  have hpos : 0 < ∑ j, Real.exp (S j - S i0) := Finset.sum_pos (fun j _ => Real.exp_pos _) ⟨0, Finset.mem_univ _⟩
  rw [unit, hws V v w hv hw, hws (fun _ => 1) d e hd he, soft, hM]
  simp only [mul_one, ← EReal.coe_sub, Ideal.exp_coe]
  rw [hsum, Ideal.div_coe hpos.ne', sum_mul_real _ _ _ (one_div_nonneg.2 hpos.le)]
  refine Finset.sum_congr rfl fun j _ => ?_
  rw [Ideal.div_coe hpos.ne', mul_comm (V j), mul_right_comm]

end Cert.Attn

end

end
-- ==== Proof.AttnPoint.lean ====
module

public import proofs.«01_k».proof.Proof.Gen.KernelIdeal.Value
public import proofs.«01_k».proof.Proof.AttnMath
public import Idealize.ShloMosaic.Lib.Pointwise
public import Idealize.ShloMosaic.Lib.Pipeline.ValueKit

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pointwise
open Cert.Attn (unit smax wsum)

/-- The factor of the queries: one eighth over `log 2`. -/
abbrev scale : EReal := (((1 / 8) * (Real.log 2)⁻¹ : ℝ) : EReal)

/-- The kernel's named constant is that factor. -/
theorem scale_eq : Named.named (F := Ideal) κ "scale" (φ := .f32) 0x3E38AA3B#32 = scale :=
  IdealRules.named_const.ideal_named_scalar _ _ _ _ rfl

/-- The constant the maxima start from is minus infinity. -/
theorem negInf_eq : Ideal.ofBits .f32 0xFF800000#32 = (⊥ : EReal) := by
  simp [Ideal.ofBits, Ideal.ieee]

/-- The comparison of a lane with 64, from below. -/
theorem lanes_below : ∀ l : Fin 128, IntOp.cmpi .slt (BitVec.ofNat 32 l.val) 64#32 = BitVec.ofBool (decide (l.val < 64)) := by
  decide +kernel

/-- The comparison of a lane with 64, from above. -/
theorem lanes_above : ∀ l : Fin 128, IntOp.cmpi .sge (BitVec.ofNat 32 l.val) 64#32 = BitVec.ofBool (decide (64 ≤ l.val)) := by
  decide +kernel

/-- A selection by a decided proposition. -/
theorem select_decided (p : Prop) [Decidable p] (a b : EReal) :
    Scalar.select (BitVec.ofBool (decide p)) a b = if p then a else b := by
  by_cases h : p <;> simp [h, Scalar.select]

/-- One score against an own key: the product of the scaled query row with the key. -/
theorem own_score_at (q0 q1 : Vec Ideal S1x256x128 .f32) (K : Vec Ideal S1x2048x128 .bf16) (R : Fin 512) (j : Fin 2048) :
    k0_pay5 q0 q1 K (ix2 R j) = ∑ l : Fin 128, k0_pay4 q0 q1 (ix2 R l) * K (ix3 0 j l) := by
  pointwise [k0_pay5]

/-- One score against a cached key. -/
theorem ctx_score_at (q0 q1 : Vec Ideal S1x256x128 .f32) (K : Vec Ideal S1x512x128 .bf16) (R : Fin 512) (j : Fin 512) :
    k0_pay6 q0 q1 K (ix2 R j) = ∑ l : Fin 128, k0_pay4 q0 q1 (ix2 R l) * K (ix3 0 j l) := by
  pointwise [k0_pay6]

/-- The scaled queries of the unit's first head. -/
theorem q_first_at (q0 q1 : Vec Ideal S1x256x128 .f32) (r : Fin 256) (l : Fin 128) :
    k0_pay4 q0 q1 (ix2 ⟨r.val, by omega⟩ l) = q0 (ix3 0 r l) * scale := by
  pointwise [k0_pay4]
  rw [scale_eq]

/-- The scaled queries of the unit's second head. -/
theorem q_second_at (q0 q1 : Vec Ideal S1x256x128 .f32) (r : Fin 256) (l : Fin 128) :
    k0_pay4 q0 q1 (ix2 ⟨256 + r.val, by omega⟩ l) = q1 (ix3 0 r l) * scale := by
  pointwise [k0_pay4]
  rw [scale_eq]

/-- A unit of the lower half: its own lanes are the first 64, its weights are summed by lane 64 of the values. -/
theorem low_at (s : FVec Ideal S512x2048 .f32) (t : FVec Ideal S512x512 .f32) (vv : Vec Ideal S1x2048x128 .bf16)
    (vc : Vec Ideal S1x512x128 .bf16) (R : Fin 512) (l : Fin 128) :
    k0_pay11 s t vv vc (ix2 R l) = if l.val < 64 then
      unit (fun j => s (ix2 R j)) (fun j => t (ix2 R j)) (fun j => vv (ix3 0 j l)) (fun j => vc (ix3 0 j l))
        (fun j => vv (ix3 0 j 64)) (fun j => vc (ix3 0 j 64)) else 0 := by
  pointwise [k0_pay11]
  rw [lanes_below, select_decided, negInf_eq]
  rfl

/-- A unit of the upper half: its own lanes are the last 64, its weights are summed by lane 0 of the values. -/
theorem high_at (s : FVec Ideal S512x2048 .f32) (t : FVec Ideal S512x512 .f32) (vv : Vec Ideal S1x2048x128 .bf16)
    (vc : Vec Ideal S1x512x128 .bf16) (R : Fin 512) (l : Fin 128) :
    k0_pay20 k0_pay18 (k0_pay19 s t vv vc) (ix2 R l) = if 64 ≤ l.val then
      unit (fun j => s (ix2 R j)) (fun j => t (ix2 R j)) (fun j => vv (ix3 0 j l)) (fun j => vc (ix3 0 j l))
        (fun j => vv (ix3 0 j 0)) (fun j => vc (ix3 0 j 0)) else 0 := by
  pointwise [k0_pay20, k0_pay18, k0_pay19]
  rw [lanes_above, select_decided, negInf_eq]
  rfl

end Cert.KernelIdeal.Attn

end

end
-- ==== Proof.AttnStore.lean ====
module

public import proofs.«01_k».proof.Proof.AttnPoint

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pointwise
open Cert.Attn (unit smax wsum)

/-- The kernel's first store of a pair of heads: the rows of the first query tile, from the pair's two units. -/
def pairFirst (q0 q1 : Vec Ideal S1x256x128 .f32) (K0 K1 V0 V1 : Vec Ideal S1x2048x128 .bf16)
    (C0 C1 W0 W1 : Vec Ideal S1x512x128 .bf16) : Vec Ideal S1x256x128 .bf16 :=
  k0_pay21 (k0_pay12 (k0_pay5 q0 q1 K0) (k0_pay6 q0 q1 C0) V0 W0) k0_pay18
    (k0_pay19 (k0_pay5 q0 q1 K1) (k0_pay6 q0 q1 C1) V1 W1)

/-- The kernel's second store: the rows of the second query tile, from the same two units. -/
def pairSecond (q0 q1 : Vec Ideal S1x256x128 .f32) (K0 K1 V0 V1 : Vec Ideal S1x2048x128 .bf16)
    (C0 C1 W0 W1 : Vec Ideal S1x512x128 .bf16) : Vec Ideal S1x256x128 .bf16 :=
  k0_pay22 (k0_pay13 (k0_pay5 q0 q1 K0) (k0_pay6 q0 q1 C0) V0 W0) k0_pay18
    (k0_pay19 (k0_pay5 q0 q1 K1) (k0_pay6 q0 q1 C1) V1 W1)

/-- One element of a pair's tile: a row of scaled queries against one unit's keys and values in the lower 64 lanes, against
    the other unit's in the upper 64. -/
def pairAt (q : Fin 128 → EReal) (K0 K1 V0 V1 : Vec Ideal S1x2048x128 .bf16) (C0 C1 W0 W1 : Vec Ideal S1x512x128 .bf16)
    (l : Fin 128) : EReal :=
  if l.val < 64 then
    unit (fun j => ∑ k : Fin 128, q k * K0 (ix3 0 j k)) (fun j => ∑ k : Fin 128, q k * C0 (ix3 0 j k))
      (fun j => V0 (ix3 0 j l)) (fun j => W0 (ix3 0 j l)) (fun j => V0 (ix3 0 j 64)) (fun j => W0 (ix3 0 j 64))
  else
    unit (fun j => ∑ k : Fin 128, q k * K1 (ix3 0 j k)) (fun j => ∑ k : Fin 128, q k * C1 (ix3 0 j k))
      (fun j => V1 (ix3 0 j l)) (fun j => W1 (ix3 0 j l)) (fun j => V1 (ix3 0 j 0)) (fun j => W1 (ix3 0 j 0))

/-- The two units of a row add up to that element: each is zero in the other's lanes. -/
theorem low_add_high (q0 q1 : Vec Ideal S1x256x128 .f32) (K0 K1 V0 V1 : Vec Ideal S1x2048x128 .bf16)
    (C0 C1 W0 W1 : Vec Ideal S1x512x128 .bf16) (R : Fin 512) (l : Fin 128) :
    k0_pay11 (k0_pay5 q0 q1 K0) (k0_pay6 q0 q1 C0) V0 W0 (ix2 R l)
      + k0_pay20 k0_pay18 (k0_pay19 (k0_pay5 q0 q1 K1) (k0_pay6 q0 q1 C1) V1 W1) (ix2 R l)
      = pairAt (fun k => k0_pay4 q0 q1 (ix2 R k)) K0 K1 V0 V1 C0 C1 W0 W1 l := by
  rw [low_at, high_at, pairAt]
  simp only [own_score_at, ctx_score_at]
  by_cases h : l.val < 64
  · rw [if_pos h, if_neg (by omega), if_pos h, add_zero]
  · rw [if_neg h, if_pos (by omega), if_neg h, zero_add]

theorem first_at (q0 q1 : Vec Ideal S1x256x128 .f32) (K0 K1 V0 V1 : Vec Ideal S1x2048x128 .bf16)
    (C0 C1 W0 W1 : Vec Ideal S1x512x128 .bf16) (r : Fin 256) (l : Fin 128) :
    pairFirst q0 q1 K0 K1 V0 V1 C0 C1 W0 W1 (ix3 0 r l) = pairAt (fun k => q0 (ix3 0 r k) * scale) K0 K1 V0 V1 C0 C1 W0 W1 l := by
  have e := low_add_high q0 q1 K0 K1 V0 V1 C0 C1 W0 W1 ⟨r.val, by omega⟩ l
  simp only [q_first_at] at e
  rw [← e]
  pointwise [pairFirst, k0_pay21, k0_pay12]

theorem second_at (q0 q1 : Vec Ideal S1x256x128 .f32) (K0 K1 V0 V1 : Vec Ideal S1x2048x128 .bf16)
    (C0 C1 W0 W1 : Vec Ideal S1x512x128 .bf16) (r : Fin 256) (l : Fin 128) :
    pairSecond q0 q1 K0 K1 V0 V1 C0 C1 W0 W1 (ix3 0 r l) = pairAt (fun k => q1 (ix3 0 r k) * scale) K0 K1 V0 V1 C0 C1 W0 W1 l := by
  have e := low_add_high q0 q1 K0 K1 V0 V1 C0 C1 W0 W1 ⟨256 + r.val, by omega⟩ l
  simp only [q_second_at] at e
  rw [← e]
  pointwise [pairSecond, k0_pay22, k0_pay13]

/-- The kernel's block: four stores, one for each tile of 128 lanes. -/
theorem out_eq (x0 : Vec Ideal S1x256x512 .f32) (x1 x2 : Vec Ideal S1x2048x512 .bf16) (x3 x4 : Vec Ideal S1x512x512 .bf16) :
    out0_5 x0 x1 x2 x3 x4 = View.canon
      [⟨r0_7, pairSecond (View.ld x0 r0_6) (View.ld x0 r0_7) (View.ld x1 r0_8) (View.ld x1 r0_10) (View.ld x2 r0_8) (View.ld x2 r0_10)
          (View.ld x3 r0_9) (View.ld x3 r0_11) (View.ld x4 r0_9) (View.ld x4 r0_11)⟩,
       ⟨r0_6, pairFirst (View.ld x0 r0_6) (View.ld x0 r0_7) (View.ld x1 r0_8) (View.ld x1 r0_10) (View.ld x2 r0_8) (View.ld x2 r0_10)
          (View.ld x3 r0_9) (View.ld x3 r0_11) (View.ld x4 r0_9) (View.ld x4 r0_11)⟩,
       ⟨r0_1, pairSecond (View.ld x0 r0_0) (View.ld x0 r0_1) (View.ld x1 r0_2) (View.ld x1 r0_4) (View.ld x2 r0_2) (View.ld x2 r0_4)
          (View.ld x3 r0_3) (View.ld x3 r0_5) (View.ld x4 r0_3) (View.ld x4 r0_5)⟩,
       ⟨r0_0, pairFirst (View.ld x0 r0_0) (View.ld x0 r0_1) (View.ld x1 r0_2) (View.ld x1 r0_4) (View.ld x2 r0_2) (View.ld x2 r0_4)
          (View.ld x3 r0_3) (View.ld x3 r0_5) (View.ld x4 r0_3) (View.ld x4 r0_5)⟩] := by
  rfl

end Cert.KernelIdeal.Attn

end

end
-- ==== Proof.AttnHost.lean ====
module

public import proofs.«01_k».proof.Proof.Gen.KernelIdeal.Value
public import Idealize.ShloMosaic.Lib.Pointwise
public import Idealize.ShloMosaic.Lib.Claim
public import Idealize.ShloMosaic.Lib.Routing.OpsSet
public import Idealize.ShloMosaic.Lib.Routing.OpsPair
public import Idealize.ShloMosaic.Lib.Pipeline.ValueKit

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pointwise Idealize.ShloMosaic.Routing

/-- Own keys (or values) of one key head: a row of 64 lanes per position. -/
def headOwn0 (k : FVec Ideal S8x2048x2x64 .f32) : FVec Ideal S8x2048x64 .f32 :=
  shapeCast S8x2048x64 (extractStridedSlice S8x1x2048x64 ![0, 0, 0, 0] (transpose S8x2x2048x64 [0, 2, 1, 3] k transposes_S8x2048x2x64_S8x2x2048x64_0_2_1_3) slices_S8x2x2048x64_S8x1x2048x64_0_0_0_0) shapeCasts_S8x1x2048x64_S8x2048x64

def headOwn1 (k : FVec Ideal S8x2048x2x64 .f32) : FVec Ideal S8x2048x64 .f32 :=
  shapeCast S8x2048x64 (extractStridedSlice S8x1x2048x64 ![0, 1, 0, 0] (transpose S8x2x2048x64 [0, 2, 1, 3] k transposes_S8x2048x2x64_S8x2x2048x64_0_2_1_3) slices_S8x2x2048x64_S8x1x2048x64_0_1_0_0) shapeCasts_S8x1x2048x64_S8x2048x64

/-- Cached keys (or values) of one key head. -/
def headCtx0 (k : FVec Ideal S8x2x512x64 .f32) : FVec Ideal S8x512x64 .f32 :=
  shapeCast S8x512x64 (extractStridedSlice S8x1x512x64 ![0, 0, 0, 0] k slices_S8x2x512x64_S8x1x512x64_0_0_0_0) shapeCasts_S8x1x512x64_S8x512x64

def headCtx1 (k : FVec Ideal S8x2x512x64 .f32) : FVec Ideal S8x512x64 .f32 :=
  shapeCast S8x512x64 (extractStridedSlice S8x1x512x64 ![0, 1, 0, 0] k slices_S8x2x512x64_S8x1x512x64_0_1_0_0) shapeCasts_S8x1x512x64_S8x512x64

/-- The four units' lanes: each key head twice, beside the fill and after it. -/
def lanesOwn (A Z B : FVec Ideal S8x2048x64 .f32) : FVec Ideal S8x2048x512 .bf16 :=
  truncf .bf16 (concatenate S8x2048x512 2 [⟨S8x2048x64, A⟩, ⟨S8x2048x64, Z⟩, ⟨S8x2048x64, Z⟩, ⟨S8x2048x64, A⟩, ⟨S8x2048x64, B⟩, ⟨S8x2048x64, Z⟩, ⟨S8x2048x64, Z⟩, ⟨S8x2048x64, B⟩] concatenates_S8x2048x64_S8x2048x64_S8x2048x64_S8x2048x64_S8x2048x64_S8x2048x64_S8x2048x64_S8x2048x64_S8x2048x512_d2) bitsLt_bf16_f32

def lanesCtx (A Z B : FVec Ideal S8x512x64 .f32) : FVec Ideal S8x512x512 .bf16 :=
  truncf .bf16 (concatenate S8x512x512 2 [⟨S8x512x64, A⟩, ⟨S8x512x64, Z⟩, ⟨S8x512x64, Z⟩, ⟨S8x512x64, A⟩, ⟨S8x512x64, B⟩, ⟨S8x512x64, Z⟩, ⟨S8x512x64, Z⟩, ⟨S8x512x64, B⟩] concatenates_S8x512x64_S8x512x64_S8x512x64_S8x512x64_S8x512x64_S8x512x64_S8x512x64_S8x512x64_S8x512x512_d2) bitsLt_bf16_f32

/-- The fill beside the keys: zeros. -/
def zerosOwn : FVec Ideal S8x2048x64 .f32 := broadcastInDim S8x2048x64 ![] bcast_S_S8x2048x64 (constant (F := Ideal) S_ .f32 0x00000000#32)

def zerosCtx : FVec Ideal S8x512x64 .f32 := broadcastInDim S8x512x64 ![] bcast_S_S8x512x64 (constant (F := Ideal) S_ .f32 0x00000000#32)

/-- The fill beside the values: zeros with a one in lane 0. -/
def onesOwn : FVec Ideal S8x2048x64 .f32 :=
  Host.scatter scatter_S8x2048x64_S1_S8x2048_01_2_2_0 (fun _ b => b) zerosOwn (broadcastInDim S1 ![] bcast_S_S1 (constantI S_ 32 0#32))
    (broadcastInDim S8x2048 ![] bcast_S_S8x2048 (constant (F := Ideal) S_ .f32 0x3F800000#32))

def onesCtx : FVec Ideal S8x512x64 .f32 :=
  Host.scatter scatter_S8x512x64_S1_S8x512_01_2_2_0 (fun _ b => b) zerosCtx (broadcastInDim S1 ![] bcast_S_S1 (constantI S_ 32 0#32))
    (broadcastInDim S8x512 ![] bcast_S_S8x512 (constant (F := Ideal) S_ .f32 0x3F800000#32))

theorem headOwn0_at (k : FVec Ideal S8x2048x2x64 .f32) (b : Fin 8) (j : Fin 2048) (d : Fin 64) : headOwn0 k (ix3 b j d) = k (ix4 b j 0 d) := by
  pointwise [headOwn0]

theorem headOwn1_at (k : FVec Ideal S8x2048x2x64 .f32) (b : Fin 8) (j : Fin 2048) (d : Fin 64) : headOwn1 k (ix3 b j d) = k (ix4 b j 1 d) := by
  pointwise [headOwn1]

theorem headCtx0_at (k : FVec Ideal S8x2x512x64 .f32) (b : Fin 8) (j : Fin 512) (d : Fin 64) : headCtx0 k (ix3 b j d) = k (ix4 b 0 j d) := by
  pointwise [headCtx0]

theorem headCtx1_at (k : FVec Ideal S8x2x512x64 .f32) (b : Fin 8) (j : Fin 512) (d : Fin 64) : headCtx1 k (ix3 b j d) = k (ix4 b 1 j d) := by
  pointwise [headCtx1]

theorem zerosOwn_at (i : S8x2048x64.Idx) : zerosOwn i = 0 := by
  pointwise [zerosOwn]

theorem zerosCtx_at (i : S8x512x64.Idx) : zerosCtx i = 0 := by
  pointwise [zerosCtx]

/-- Lane 0 of the values' fill is one. -/
theorem onesOwn_at (b : Fin 8) (j : Fin 2048) : onesOwn (ix3 b j 0) = 1 := by
  refine scatter_set_hit _ _ _ _ _ _ (fun k _ => ?_) (ix2 b j) ?_
  · pointwise
  · rw [resultIdx?_eq_some]
    have s0 : scatter_S8x2048x64_S1_S8x2048_01_2_2_0.start (ix2 b j) (broadcastInDim S1 ![] bcast_S_S1 (constantI S_ 32 0#32)) 0 = 0 := rfl
    have s1 : scatter_S8x2048x64_S1_S8x2048_01_2_2_0.start (ix2 b j) (broadcastInDim S1 ![] bcast_S_S1 (constantI S_ 32 0#32)) 1 = 0 := rfl
    have s2 : scatter_S8x2048x64_S1_S8x2048_01_2_2_0.start (ix2 b j) (broadcastInDim S1 ![] bcast_S_S1 (constantI S_ 32 0#32)) 2 = 0 := rfl
    have w0 : scatter_S8x2048x64_S1_S8x2048_01_2_2_0.window (ix2 b j) 0 = b.val := rfl
    have w1 : scatter_S8x2048x64_S1_S8x2048_01_2_2_0.window (ix2 b j) 1 = j.val := rfl
    have w2 : scatter_S8x2048x64_S1_S8x2048_01_2_2_0.window (ix2 b j) 2 = 0 := rfl
    intro a
    fin_cases a
    · exact (congrArg₂ (fun (u : Int) (v : Nat) => u + (v : Int)) s0 w0).trans (zero_add _)
    · exact (congrArg₂ (fun (u : Int) (v : Nat) => u + (v : Int)) s1 w1).trans (zero_add _)
    · exact (congrArg₂ (fun (u : Int) (v : Nat) => u + (v : Int)) s2 w2).trans (zero_add _)

/-- Lane 0 of the values' fill is one, of the cached ones. -/
theorem onesCtx_at (b : Fin 8) (j : Fin 512) : onesCtx (ix3 b j 0) = 1 := by
  refine scatter_set_hit _ _ _ _ _ _ (fun k _ => ?_) (ix2 b j) ?_
  · pointwise
  · rw [resultIdx?_eq_some]
    have s0 : scatter_S8x512x64_S1_S8x512_01_2_2_0.start (ix2 b j) (broadcastInDim S1 ![] bcast_S_S1 (constantI S_ 32 0#32)) 0 = 0 := rfl
    have s1 : scatter_S8x512x64_S1_S8x512_01_2_2_0.start (ix2 b j) (broadcastInDim S1 ![] bcast_S_S1 (constantI S_ 32 0#32)) 1 = 0 := rfl
    have s2 : scatter_S8x512x64_S1_S8x512_01_2_2_0.start (ix2 b j) (broadcastInDim S1 ![] bcast_S_S1 (constantI S_ 32 0#32)) 2 = 0 := rfl
    have w0 : scatter_S8x512x64_S1_S8x512_01_2_2_0.window (ix2 b j) 0 = b.val := rfl
    have w1 : scatter_S8x512x64_S1_S8x512_01_2_2_0.window (ix2 b j) 1 = j.val := rfl
    have w2 : scatter_S8x512x64_S1_S8x512_01_2_2_0.window (ix2 b j) 2 = 0 := rfl
    intro a
    fin_cases a
    · exact (congrArg₂ (fun (u : Int) (v : Nat) => u + (v : Int)) s0 w0).trans (zero_add _)
    · exact (congrArg₂ (fun (u : Int) (v : Nat) => u + (v : Int)) s1 w1).trans (zero_add _)
    · exact (congrArg₂ (fun (u : Int) (v : Nat) => u + (v : Int)) s2 w2).trans (zero_add _)

/-- The lanes of the four units: a key head in the lower half of its first unit and in the upper half of its second, the fill elsewhere. -/
theorem lanesOwn_at (A Z B : FVec Ideal S8x2048x64 .f32) (b : Fin 8) (j : Fin 2048) (x : Fin 512) :
    lanesOwn A Z B (ix3 b j x) =
      if x.val / 64 % 4 = 0 ∨ x.val / 64 % 4 = 3 then
        (if x.val < 256 then A (ix3 b j ⟨x.val % 64, by omega⟩) else B (ix3 b j ⟨x.val % 64, by omega⟩))
      else Z (ix3 b j ⟨x.val % 64, by omega⟩) := by
  pointwise [lanesOwn]
  split_ifs <;> first
    | omega
    | (refine Eq.trans (b := A (ix3 b j ⟨x.val % 64, by omega⟩)) ?_ ((if_pos ?_).trans (if_pos ?_)).symm
       · refine congrArg (fun y => A (ix3 b j y)) (Fin.ext ?_)
         dsimp only
         omega
       · omega
       · omega)
    | (refine Eq.trans (b := B (ix3 b j ⟨x.val % 64, by omega⟩)) ?_ ((if_pos ?_).trans (if_neg ?_)).symm
       · refine congrArg (fun y => B (ix3 b j y)) (Fin.ext ?_)
         dsimp only
         omega
       · omega
       · omega)
    | (refine Eq.trans (b := Z (ix3 b j ⟨x.val % 64, by omega⟩)) ?_ (if_neg ?_).symm
       · refine congrArg (fun y => Z (ix3 b j y)) (Fin.ext ?_)
         dsimp only
         omega
       · omega)

/-- The lanes of the four units of the cached keys: a key head in the lower half of its first unit and in the upper half of its second, the fill elsewhere. -/
theorem lanesCtx_at (A Z B : FVec Ideal S8x512x64 .f32) (b : Fin 8) (j : Fin 512) (x : Fin 512) :
    lanesCtx A Z B (ix3 b j x) =
      if x.val / 64 % 4 = 0 ∨ x.val / 64 % 4 = 3 then
        (if x.val < 256 then A (ix3 b j ⟨x.val % 64, by omega⟩) else B (ix3 b j ⟨x.val % 64, by omega⟩))
      else Z (ix3 b j ⟨x.val % 64, by omega⟩) := by
  pointwise [lanesCtx]
  split_ifs <;> first
    | omega
    | (refine Eq.trans (b := A (ix3 b j ⟨x.val % 64, by omega⟩)) ?_ ((if_pos ?_).trans (if_pos ?_)).symm
       · refine congrArg (fun y => A (ix3 b j y)) (Fin.ext ?_)
         dsimp only
         omega
       · omega
       · omega)
    | (refine Eq.trans (b := B (ix3 b j ⟨x.val % 64, by omega⟩)) ?_ ((if_pos ?_).trans (if_neg ?_)).symm
       · refine congrArg (fun y => B (ix3 b j y)) (Fin.ext ?_)
         dsimp only
         omega
       · omega
       · omega)
    | (refine Eq.trans (b := Z (ix3 b j ⟨x.val % 64, by omega⟩)) ?_ (if_neg ?_).symm
       · refine congrArg (fun y => Z (ix3 b j y)) (Fin.ext ?_)
         dsimp only
         omega
       · omega)

variable (m : (ℓ : Loc nD τ sig) → Buf (Elt Ideal) ℓ)

theorem q_at (c : Dev nD) (b : Fin 8) (r : Fin 2048) (x : Fin 512) :
    V m c main_v0 (ix3 b r x) = m ((c : Thread nD τ).loc main_arg0) (ix4 b r ⟨x.val / 64, by omega⟩ ⟨x.val % 64, by omega⟩) := by
  entry_read
  pointwise

/-- The own keys that the call is given. -/
theorem kk_eq (c : Dev nD) : V m c main_v14 = lanesOwn (headOwn0 (m ((c : Thread nD τ).loc main_arg1))) zerosOwn (headOwn1 (m ((c : Thread nD τ).loc main_arg1))) := by
  rfl

/-- The own values' fill is the scattered one. -/
theorem fillOwn_eq (W : Valuation τ sig (Elt Ideal)) :
    StableHlo.after (hostOps0.take 26) W main_v21 = onesOwn := by
  have e : (hostOps0.take 26 : List (HloOp τ sig (Elt Ideal))) = hostOps0.take 25 ++ [hostOps0[25]] := rfl
  have t (W : Valuation τ sig (Elt Ideal)) : StableHlo.after [hostOps0[25]] W main_v21
      = Host.scatter scatter_S8x2048x64_S1_S8x2048_01_2_2_0 (fun _ b => b) (W main_v18) (W main_v19) (W main_v20) := by
    have o : (hostOps0[25] : HloOp τ sig (Elt Ideal)) = StableHlo.ternary main_v18 main_v19 main_v20 main_v21 ((fun x i u => Host.scatter scatter_S8x2048x64_S1_S8x2048_01_2_2_0 (fun _ b => b) x i u) : (⟨S8x2048x64, .f32⟩ : BufTy).Contents (Elt Ideal) → (⟨S1, .i32⟩ : BufTy).Contents (Elt Ideal) → (⟨S8x2048, .f32⟩ : BufTy).Contents (Elt Ideal) → (⟨S8x2048x64, .f32⟩ : BufTy).Contents (Elt Ideal)) := rfl
    rw [o, StableHlo.after_cons, StableHlo.after_nil]
    exact StableHlo.ternary_result _ _ _ _ _ _ _ _ _ W
  have a : StableHlo.after (hostOps0.take 25) W main_v18 = zerosOwn := rfl
  have b : StableHlo.after (hostOps0.take 25) W main_v19 = broadcastInDim S1 ![] bcast_S_S1 (constantI S_ 32 0#32) := rfl
  have c : StableHlo.after (hostOps0.take 25) W main_v20 = broadcastInDim S8x2048 ![] bcast_S_S8x2048 (constant (F := Ideal) S_ .f32 0x3F800000#32) := rfl
  rw [e, StableHlo.after_append, t, a, b, c]
  rfl

/-- The own values that the call is given: each head beside its fill. -/
theorem vv_eq (c : Dev nD) : V m c main_v31 = lanesOwn (headOwn0 (m ((c : Thread nD τ).loc main_arg2))) onesOwn (headOwn1 (m ((c : Thread nD τ).loc main_arg2))) := by
  have e : (hostOps0 : List (HloOp τ sig (Elt Ideal))) = hostOps0.take 26 ++ hostOps0.drop 26 := rfl
  have t (W : Valuation τ sig (Elt Ideal)) : StableHlo.after (hostOps0.drop 26) W main_v31
      = lanesOwn (shapeCast S8x2048x64 (extractStridedSlice S8x1x2048x64 ![0, 0, 0, 0] (W main_v15) slices_S8x2x2048x64_S8x1x2048x64_0_0_0_0) shapeCasts_S8x1x2048x64_S8x2048x64) (W main_v21) (shapeCast S8x2048x64 (extractStridedSlice S8x1x2048x64 ![0, 1, 0, 0] (W main_v15) slices_S8x2x2048x64_S8x1x2048x64_0_1_0_0) shapeCasts_S8x1x2048x64_S8x2048x64) := rfl
  have h : StableHlo.after (hostOps0.take 26) (fun b => m (c, b)) main_v15 = transpose S8x2x2048x64 [0, 2, 1, 3] (m ((c : Thread nD τ).loc main_arg2)) transposes_S8x2048x2x64_S8x2x2048x64_0_2_1_3 := rfl
  show StableHlo.after hostOps0 (fun b => m (c, b)) main_v31 = _
  rw [e, StableHlo.after_append, t, fillOwn_eq, h]
  rfl

/-- The cached keys that the call is given. -/
theorem kc_eq (c : Dev nD) : V m c main_v44 = lanesCtx (headCtx0 (m ((c : Thread nD τ).loc main_arg3))) zerosCtx (headCtx1 (m ((c : Thread nD τ).loc main_arg3))) := by
  rfl

/-- The cached values' fill is the scattered one. -/
theorem fillCtx_eq (W : Valuation τ sig (Elt Ideal)) :
    StableHlo.after (hostOps0.take 59) W main_v50 = onesCtx := by
  have e : (hostOps0.take 59 : List (HloOp τ sig (Elt Ideal))) = hostOps0.take 58 ++ [hostOps0[58]] := rfl
  have t (W : Valuation τ sig (Elt Ideal)) : StableHlo.after [hostOps0[58]] W main_v50
      = Host.scatter scatter_S8x512x64_S1_S8x512_01_2_2_0 (fun _ b => b) (W main_v47) (W main_v48) (W main_v49) := by
    have o : (hostOps0[58] : HloOp τ sig (Elt Ideal)) = StableHlo.ternary main_v47 main_v48 main_v49 main_v50 ((fun x i u => Host.scatter scatter_S8x512x64_S1_S8x512_01_2_2_0 (fun _ b => b) x i u) : (⟨S8x512x64, .f32⟩ : BufTy).Contents (Elt Ideal) → (⟨S1, .i32⟩ : BufTy).Contents (Elt Ideal) → (⟨S8x512, .f32⟩ : BufTy).Contents (Elt Ideal) → (⟨S8x512x64, .f32⟩ : BufTy).Contents (Elt Ideal)) := rfl
    rw [o, StableHlo.after_cons, StableHlo.after_nil]
    exact StableHlo.ternary_result _ _ _ _ _ _ _ _ _ W
  have a : StableHlo.after (hostOps0.take 58) W main_v47 = zerosCtx := rfl
  have b : StableHlo.after (hostOps0.take 58) W main_v48 = broadcastInDim S1 ![] bcast_S_S1 (constantI S_ 32 0#32) := rfl
  have c : StableHlo.after (hostOps0.take 58) W main_v49 = broadcastInDim S8x512 ![] bcast_S_S8x512 (constant (F := Ideal) S_ .f32 0x3F800000#32) := rfl
  rw [e, StableHlo.after_append, t, a, b, c]
  rfl

/-- The cached values that the call is given: each head beside its fill. -/
theorem vc_eq (c : Dev nD) : V m c main_v60 = lanesCtx (headCtx0 (m ((c : Thread nD τ).loc main_arg4))) onesCtx (headCtx1 (m ((c : Thread nD τ).loc main_arg4))) := by
  have e : (hostOps0 : List (HloOp τ sig (Elt Ideal))) = hostOps0.take 59 ++ hostOps0.drop 59 := rfl
  have t (W : Valuation τ sig (Elt Ideal)) : StableHlo.after (hostOps0.drop 59) W main_v60
      = lanesCtx (headCtx0 (W main_arg4)) (W main_v50) (headCtx1 (W main_arg4)) := rfl
  have h : StableHlo.after (hostOps0.take 59) (fun b => m (c, b)) main_arg4 = m ((c : Thread nD τ).loc main_arg4) := rfl
  show StableHlo.after hostOps0 (fun b => m (c, b)) main_v60 = _
  rw [e, StableHlo.after_append, t, fillCtx_eq, h]

end Cert.KernelIdeal.Attn

end

end
-- ==== Proof.AttnRef.lean ====
module

public import proofs.«01_k».proof.Proof.Gen.ReferenceIdeal.Run
public import proofs.«01_k».proof.Proof.AttnMath
public import Idealize.ShloMosaic.Lib.Pointwise

@[expose] public section

set_option maxRecDepth 16384

noncomputable section

namespace Cert.ReferenceIdeal.Attn

open Cert.ReferenceIdeal Cert.ReferenceIdeal.Gen Idealize.ShloMosaic Idealize.ShloMosaic.TcCoe Idealize.SL.Sem
open Idealize.ShloMosaic.Pointwise
open Cert.Attn (soft)

/-- The cached keys (or values) followed by the own ones, a row per key position. -/
def joined (ctx : FVec Ideal S8x2x512x64 .f32) (own : FVec Ideal S8x2048x2x64 .f32) : FVec Ideal S8x2560x2x64 .f32 :=
  concatenate S8x2560x2x64 1 [⟨S8x512x2x64, (transpose S8x512x2x64 [0, 2, 1, 3] ctx transposes_S8x2x512x64_S8x512x2x64_0_2_1_3)⟩, ⟨S8x2048x2x64, own⟩] concatenates_S8x512x2x64_S8x2048x2x64_S8x2560x2x64_d1

/-- The scores: the scaled queries, four heads for each key head, against all keys. -/
def scores (q : FVec Ideal S8x2048x8x64 .f32) (K : FVec Ideal S8x2560x2x64 .f32) : FVec Ideal S8x2x4x2048x2560 .f32 :=
  transpose S8x2x4x2048x2560 [0, 1, 4, 3, 2] (Host.dotGeneral dot_S8x2560x2x64_S8x2048x2x4x64_S8x2x2560x2048x4_3_4_1_13_02_02 none K (mulf (shapeCast _ q shapeCasts_S8x2048x8x64_S8x2048x2x4x64) (broadcastInDim S8x2048x2x4x64 ![] bcast_S_S8x2048x2x4x64 (constant (F := Ideal) S_ .f32 0x3E000000#32)))) transposes_S8x2x2560x2048x4_S8x2x4x2048x2560_0_1_4_3_2

/-- The greatest score of each row. -/
def rowmax (s : FVec Ideal S8x2x4x2048x2560 .f32) : FVec Ideal S8x2x4x2048 .f32 :=
  Host.reduce FloatOps.maximumf s (constant (F := Ideal) S_ .f32 0xFF800000#32) reducesTo_S8x2x4x2048x2560_S8x2x4x2048_d4 h_S_

/-- That, from minus infinity. -/
def shift (s : FVec Ideal S8x2x4x2048 .f32) : FVec Ideal S8x2x4x2048 .f32 :=
  maximumf (broadcastInDim S8x2x4x2048 ![] bcast_S_S8x2x4x2048 (constant (F := Ideal) S_ .f32 0xFF800000#32)) s

/-- The exponentials of the scores less their shift. -/
def powers (s : FVec Ideal S8x2x4x2048x2560 .f32) (x : FVec Ideal S8x2x4x2048 .f32) : FVec Ideal S8x2x4x2048x2560 .f32 :=
  Host.exp (subf s (broadcastInDim S8x2x4x2048x2560 ![0, 1, 2, 3, 4] bcast_S8x2x4x2048x1_S8x2x4x2048x2560_0_1_2_3_4 (broadcastInDim S8x2x4x2048x1 ![0, 1, 2, 3] bcast_S8x2x4x2048_S8x2x4x2048x1_0_1_2_3 x)))

/-- The weights: each exponential over the row's sum. -/
def weights (e : FVec Ideal S8x2x4x2048x2560 .f32) : FVec Ideal S8x2x4x2048x2560 .f32 :=
  Host.divf e (broadcastInDim S8x2x4x2048x2560 ![0, 1, 2, 3, 4] bcast_S8x2x4x2048x1_S8x2x4x2048x2560_0_1_2_3_4 (broadcastInDim S8x2x4x2048x1 ![0, 1, 2, 3] bcast_S8x2x4x2048_S8x2x4x2048x1_0_1_2_3 (Host.reduceAdd e (constant (F := Ideal) S_ .f32 0x00000000#32) reducesTo_S8x2x4x2048x2560_S8x2x4x2048_d4 h_S_)))

/-- The weighted values, one row of 512 lanes per query position. -/
def mixed (V : FVec Ideal S8x2560x2x64 .f32) (w : FVec Ideal S8x2x4x2048x2560 .f32) : FVec Ideal S8x2048x512 .bf16 :=
  truncf .bf16 (shapeCast _ (transpose S8x2048x2x4x64 [0, 4, 1, 3, 2] (Host.dotGeneral dot_S8x2560x2x64_S8x2x4x2048x2560_S8x2x64x4x2048_1_4_3_23_02_01 none V w) transposes_S8x2x64x4x2048_S8x2048x2x4x64_0_4_1_3_2) shapeCasts_S8x2048x2x4x64_S8x2048x512) bitsLt_bf16_f32

/-- The constant that scales the queries is one eighth. -/
theorem eighth_eq : Ideal.ofBits .f32 0x3E000000#32 = ((1 / 8 : ℝ) : EReal) := by
  simp [Ideal.ofBits, Ideal.ieee, -EReal.coe_mul]
  norm_num

/-- The keys of one batch and head, in order: the cached ones, then the own ones. -/
theorem joined_at (ctx : FVec Ideal S8x2x512x64 .f32) (own : FVec Ideal S8x2048x2x64 .f32) (b : Fin 8) (j : Fin 2560) (h : Fin 2) (d : Fin 64) :
    joined ctx own (ix4 b j h d) = if hj : j.val < 512 then ctx (ix4 b h ⟨j.val, hj⟩ d) else own (ix4 b ⟨j.val - 512, by omega⟩ h d) := by
  pointwise [joined]

/-- One score. -/
theorem scores_at (q : FVec Ideal S8x2048x8x64 .f32) (K : FVec Ideal S8x2560x2x64 .f32) (b : Fin 8) (h : Fin 2) (g : Fin 4) (r : Fin 2048) (j : Fin 2560) :
    scores q K (ix5 b h g r j) = ∑ d : Fin 64, K (ix4 b j h d) * (q (ix4 b r ⟨4 * h.val + g.val, by omega⟩ d) * ((1 / 8 : ℝ) : EReal)) := by
  pointwise [scores]
  refine Finset.sum_congr rfl fun d _ => ?_
  rw [eighth_eq]
  exact congrArg (fun a : Fin 8 => K (ix4 b j h d) * (q (ix4 b r a d) * ((1 / 8 : ℝ) : EReal))) (Fin.ext (by show h.val * 4 + g.val = 4 * h.val + g.val; omega))

/-- One row's greatest score. -/
theorem rowmax_at (s : FVec Ideal S8x2x4x2048x2560 .f32) (b : Fin 8) (h : Fin 2) (g : Fin 4) (r : Fin 2048) :
    rowmax s (ix4 b h g r) = Finset.univ.fold max (Ideal.ofBits .f32 0xFF800000#32) fun i => s (ix5 b h g r i) := by
  pointwise [rowmax]

/-- One row's shift. -/
theorem shift_at (x : FVec Ideal S8x2x4x2048 .f32) (b : Fin 8) (h : Fin 2) (g : Fin 4) (r : Fin 2048) :
    shift x (ix4 b h g r) = max (Ideal.ofBits .f32 0xFF800000#32) (x (ix4 b h g r)) := by
  pointwise [shift]

/-- One exponential. -/
theorem powers_at (s : FVec Ideal S8x2x4x2048x2560 .f32) (x : FVec Ideal S8x2x4x2048 .f32) (b : Fin 8) (h : Fin 2) (g : Fin 4) (r : Fin 2048) (j : Fin 2560) :
    powers s x (ix5 b h g r j) = Ideal.exp (s (ix5 b h g r j) - x (ix4 b h g r)) := by
  pointwise [powers]

/-- One weight. -/
theorem weights_at (e : FVec Ideal S8x2x4x2048x2560 .f32) (b : Fin 8) (h : Fin 2) (g : Fin 4) (r : Fin 2048) (j : Fin 2560) :
    weights e (ix5 b h g r j) = Ideal.div (e (ix5 b h g r j)) (∑ i : Fin 2560, e (ix5 b h g r i)) := by
  pointwise [weights]

/-- One lane of a query position's result: the weighted values of the lane's head. -/
theorem mixed_at (V : FVec Ideal S8x2560x2x64 .f32) (w : FVec Ideal S8x2x4x2048x2560 .f32) (b : Fin 8) (r : Fin 2048) (x : Fin 512) :
    mixed V w (ix3 b r x) = ∑ j : Fin 2560, V (ix4 b j ⟨x.val / 256, by omega⟩ ⟨x.val % 64, by omega⟩)
      * w (ix5 b ⟨x.val / 256, by omega⟩ ⟨x.val / 64 % 4, by omega⟩ r j) := by
  pointwise [mixed]

/-- The weighted values from the scores. -/
def fromScores (V : FVec Ideal S8x2560x2x64 .f32) (s : FVec Ideal S8x2x4x2048x2560 .f32) : FVec Ideal S8x2048x512 .bf16 :=
  mixed V (weights (powers s (shift (rowmax s))))

/-- The reference's result is these steps in turn. -/
theorem res_eq (m : (ℓ : Loc nD τ sig) → Buf (Elt Ideal) ℓ) (c : Dev nD) :
    Value.res_main_v23 m c = fromScores (joined (m ((c.tc : Thread nD τ).loc main_arg4)) (m ((c.tc : Thread nD τ).loc main_arg2)))
      (scores (m ((c.tc : Thread nD τ).loc main_arg0)) (joined (m ((c.tc : Thread nD τ).loc main_arg3)) (m ((c.tc : Thread nD τ).loc main_arg1)))) := rfl

/-- The constant that the maxima start from is minus infinity. -/
theorem negInf_eq : Ideal.ofBits .f32 0xFF800000#32 = (⊥ : EReal) := by
  simp [Ideal.ofBits, Ideal.ieee]

/-- One score of the reference: key `j` of a lane's head against the scaled query. -/
def score (q : FVec Ideal S8x2048x8x64 .f32) (K : FVec Ideal S8x2560x2x64 .f32) (b : Fin 8) (r : Fin 2048) (x : Fin 512) (j : Fin 2560) : EReal :=
  ∑ d : Fin 64, K (ix4 b j ⟨x.val / 256, by omega⟩ d) * (q (ix4 b r ⟨x.val / 64, by omega⟩ d) * ((1 / 8 : ℝ) : EReal))

/-- One lane of the weighted values is the softmax of its head's scores against the lane's values. -/
theorem fromScores_at (q : FVec Ideal S8x2048x8x64 .f32) (K V : FVec Ideal S8x2560x2x64 .f32) (b : Fin 8) (r : Fin 2048) (x : Fin 512) :
    fromScores V (scores q K) (ix3 b r x) = soft (score q K b r x)
      (fun j => V (ix4 b j ⟨x.val / 256, by omega⟩ ⟨x.val % 64, by omega⟩)) := by
  have hh : (⟨4 * (x.val / 256) + x.val / 64 % 4, by omega⟩ : Fin 8) = ⟨x.val / 64, by omega⟩ := Fin.ext (by show 4 * (x.val / 256) + x.val / 64 % 4 = x.val / 64; omega)
  have hs : ∀ j : Fin 2560, scores q K (ix5 b ⟨x.val / 256, by omega⟩ ⟨x.val / 64 % 4, by omega⟩ r j) = score q K b r x j := fun j => by
    rw [scores_at, score]
    simp only [hh]
  rw [fromScores, mixed_at]
  simp only [weights_at, powers_at, shift_at, rowmax_at, negInf_eq, hs]
  rw [soft]

end Cert.ReferenceIdeal.Attn

end

end
-- ==== Proof.AttnHalf.lean ====
module

public import proofs.«01_k».proof.Proof.AttnMath

@[expose] public section

set_option maxRecDepth 16384

noncomputable section

namespace Cert.Attn

open Idealize.ShloMosaic

/-! ## The scores of a unit: 64 lanes of a key head, 64 lanes of zeros -/

/-- The inclusion of the reals goes through finite sums. -/
theorem coe_sum_real {ι : Type*} (s : Finset ι) (f : ι → ℝ) : ((∑ i ∈ s, f i : ℝ) : EReal) = ∑ i ∈ s, (f i : EReal) :=
  map_sum (⟨⟨(fun x : ℝ => (x : EReal)), EReal.coe_zero⟩, EReal.coe_add⟩ : ℝ →+ EReal) _ _

/-- A sum over 128 lanes is one over the lower 64 and one over the upper 64. -/
theorem sum_halves (f : Fin 128 → EReal) :
    ∑ k, f k = (∑ k : Fin 64, f ⟨k.val, by omega⟩) + ∑ k : Fin 64, f ⟨64 + k.val, by omega⟩ :=
  Fin.sum_univ_add (a := 64) (b := 64) f

/-- The score of 64 lanes of real queries, scaled, with real keys. -/
theorem score_real (Q K : Fin 64 → ℝ) :
    ∑ k, ((Q k : EReal) * (((1 / 8) * (Real.log 2)⁻¹ : ℝ) : EReal)) * (K k : EReal)
      = ((∑ k, K k * (Q k * (1 / 8)) : ℝ) : EReal) * ((Real.log 2)⁻¹ : ℝ) := by
  simp only [← EReal.coe_mul, ← coe_sum_real]
  congr 1
  rw [Finset.sum_mul]
  exact Finset.sum_congr rfl fun k _ => by ring

/-- A unit whose key head lies in the lower lanes. -/
theorem score_low (q K : Fin 128 → EReal) (Q R : Fin 64 → ℝ)
    (hq : ∀ k : Fin 64, q ⟨k.val, by omega⟩ = (Q k : EReal) * (((1 / 8) * (Real.log 2)⁻¹ : ℝ) : EReal))
    (hK : ∀ k : Fin 64, K ⟨k.val, by omega⟩ = (R k : EReal)) (hz : ∀ k : Fin 64, K ⟨64 + k.val, by omega⟩ = 0) :
    ∑ k, q k * K k = ((∑ k, R k * (Q k * (1 / 8)) : ℝ) : EReal) * ((Real.log 2)⁻¹ : ℝ) := by
  rw [sum_halves, ← score_real]
  simp only [hq, hK, hz, mul_zero, Finset.sum_const_zero, add_zero]

/-- A unit whose key head lies in the upper lanes. -/
theorem score_high (q K : Fin 128 → EReal) (Q R : Fin 64 → ℝ)
    (hq : ∀ k : Fin 64, q ⟨64 + k.val, by omega⟩ = (Q k : EReal) * (((1 / 8) * (Real.log 2)⁻¹ : ℝ) : EReal))
    (hK : ∀ k : Fin 64, K ⟨64 + k.val, by omega⟩ = (R k : EReal)) (hz : ∀ k : Fin 64, K ⟨k.val, by omega⟩ = 0) :
    ∑ k, q k * K k = ((∑ k, R k * (Q k * (1 / 8)) : ℝ) : EReal) * ((Real.log 2)⁻¹ : ℝ) := by
  rw [sum_halves, ← score_real]
  simp only [hq, hK, hz, mul_zero, Finset.sum_const_zero, zero_add]

end Cert.Attn

end

end
-- ==== Proof.AttnRow.lean ====
module

public import proofs.«01_k».proof.Proof.AttnStore
public import proofs.«01_k».proof.Proof.AttnHost
public import proofs.«01_k».proof.Proof.AttnRef
public import proofs.«01_k».proof.Proof.AttnHalf

@[expose] public section

set_option maxRecDepth 16384

noncomputable section

namespace Cert.Attn

/-- A unit whose key head lies in the lower lanes computes the softmax of its head. -/
theorem low_eq (q : Fin 128 → EReal) (K V : Fin 2048 → Fin 128 → EReal) (C W : Fin 512 → Fin 128 → EReal) (Q : Fin 64 → ℝ)
    (R : Fin 2560 → Fin 64 → ℝ) (U : Fin 2560 → Fin 64 → EReal)
    (hq : ∀ k : Fin 64, q ⟨k.val, by omega⟩ = (Q k : EReal) * (((1 / 8) * (Real.log 2)⁻¹ : ℝ) : EReal))
    (hK : ∀ j (d : Fin 64), K j ⟨d.val, by omega⟩ = (R ⟨512 + j.val, by omega⟩ d : EReal)) (hKz : ∀ j (d : Fin 64), K j ⟨64 + d.val, by omega⟩ = 0)
    (hC : ∀ j (d : Fin 64), C j ⟨d.val, by omega⟩ = (R ⟨j.val, by omega⟩ d : EReal)) (hCz : ∀ j (d : Fin 64), C j ⟨64 + d.val, by omega⟩ = 0)
    (hV : ∀ j (d : Fin 64), V j ⟨d.val, by omega⟩ = U ⟨512 + j.val, by omega⟩ d) (hV1 : ∀ j, V j 64 = 1)
    (hW : ∀ j (d : Fin 64), W j ⟨d.val, by omega⟩ = U ⟨j.val, by omega⟩ d) (hW1 : ∀ j, W j 64 = 1) (l : Fin 64) :
    unit (fun j => ∑ k, q k * K j k) (fun j => ∑ k, q k * C j k) (fun j => V j ⟨l.val, by omega⟩) (fun j => W j ⟨l.val, by omega⟩)
      (fun j => V j 64) (fun j => W j 64)
      = soft (fun j => ((∑ d, R j d * (Q d * (1 / 8)) : ℝ) : EReal)) (fun j => U j l) :=
  unit_eq_soft (fun j => ∑ d, R j d * (Q d * (1 / 8))) (fun j => U j l) _ _ _ _ _ _
    (fun j => score_low q (K j) Q _ hq (hK j) (hKz j)) (fun j => score_low q (C j) Q _ hq (hC j) (hCz j))
    (fun j => hV j l) (fun j => hW j l) hV1 hW1

/-- A unit whose key head lies in the upper lanes computes the softmax of its head. -/
theorem high_eq (q : Fin 128 → EReal) (K V : Fin 2048 → Fin 128 → EReal) (C W : Fin 512 → Fin 128 → EReal) (Q : Fin 64 → ℝ)
    (R : Fin 2560 → Fin 64 → ℝ) (U : Fin 2560 → Fin 64 → EReal)
    (hq : ∀ k : Fin 64, q ⟨64 + k.val, by omega⟩ = (Q k : EReal) * (((1 / 8) * (Real.log 2)⁻¹ : ℝ) : EReal))
    (hK : ∀ j (d : Fin 64), K j ⟨64 + d.val, by omega⟩ = (R ⟨512 + j.val, by omega⟩ d : EReal)) (hKz : ∀ j (d : Fin 64), K j ⟨d.val, by omega⟩ = 0)
    (hC : ∀ j (d : Fin 64), C j ⟨64 + d.val, by omega⟩ = (R ⟨j.val, by omega⟩ d : EReal)) (hCz : ∀ j (d : Fin 64), C j ⟨d.val, by omega⟩ = 0)
    (hV : ∀ j (d : Fin 64), V j ⟨64 + d.val, by omega⟩ = U ⟨512 + j.val, by omega⟩ d) (hV1 : ∀ j, V j 0 = 1)
    (hW : ∀ j (d : Fin 64), W j ⟨64 + d.val, by omega⟩ = U ⟨j.val, by omega⟩ d) (hW1 : ∀ j, W j 0 = 1) (l : Fin 64) :
    unit (fun j => ∑ k, q k * K j k) (fun j => ∑ k, q k * C j k) (fun j => V j ⟨64 + l.val, by omega⟩) (fun j => W j ⟨64 + l.val, by omega⟩)
      (fun j => V j 0) (fun j => W j 0)
      = soft (fun j => ((∑ d, R j d * (Q d * (1 / 8)) : ℝ) : EReal)) (fun j => U j l) :=
  unit_eq_soft (fun j => ∑ d, R j d * (Q d * (1 / 8))) (fun j => U j l) _ _ _ _ _ _
    (fun j => score_high q (K j) Q _ hq (hK j) (hKz j)) (fun j => score_high q (C j) Q _ hq (hC j) (hCz j))
    (fun j => hV j l) (fun j => hW j l) hV1 hW1

end Cert.Attn

namespace Cert.KernelIdeal.Attn

open Cert.KernelIdeal Cert.KernelIdeal.Gen Idealize.ShloMosaic Idealize.ShloMosaic.TcCoe Idealize.SL.Sem
open Idealize.ShloMosaic.Pointwise
open Cert.Attn (unit soft low_eq high_eq coe_sum_real)
open Cert.ReferenceIdeal.Attn (joined joined_at scores fromScores fromScores_at score)

/-! ## The lanes of keys and values -/

/-- Own keys (or values): a lane of a unit that holds its key head. -/
theorem own_lane (k : FVec Ideal S8x2048x2x64 .f32) (Z : FVec Ideal S8x2048x64 .f32) (b : Fin 8) (j : Fin 2048) (x : Fin 512) (h : Fin 2) (d : Fin 64)
    (hx : x.val / 256 = h.val) (hd : x.val % 64 = d.val) (hs : x.val / 64 % 4 = 0 ∨ x.val / 64 % 4 = 3) :
    lanesOwn (headOwn0 k) Z (headOwn1 k) (ix3 b j x) = k (ix4 b j h d) := by
  have e : (⟨x.val % 64, by omega⟩ : Fin 64) = d := Fin.ext hd
  rw [lanesOwn_at, if_pos hs, e, headOwn0_at, headOwn1_at]
  split_ifs with hl
  · rw [show h = 0 from Fin.ext (by rw [← hx]; show x.val / 256 = 0; omega)]
  · rw [show h = 1 from Fin.ext (by rw [← hx]; show x.val / 256 = 1; omega)]

/-- Own keys (or values): a lane of a unit beside its key head. -/
theorem own_fill (k : FVec Ideal S8x2048x2x64 .f32) (Z : FVec Ideal S8x2048x64 .f32) (b : Fin 8) (j : Fin 2048) (x : Fin 512) (d : Fin 64)
    (hd : x.val % 64 = d.val) (hs : ¬(x.val / 64 % 4 = 0 ∨ x.val / 64 % 4 = 3)) :
    lanesOwn (headOwn0 k) Z (headOwn1 k) (ix3 b j x) = Z (ix3 b j d) := by
  have e : (⟨x.val % 64, by omega⟩ : Fin 64) = d := Fin.ext hd
  rw [lanesOwn_at, if_neg hs, e]

/-- Cached keys (or values): a lane of a unit that holds its key head. -/
theorem ctx_lane (k : FVec Ideal S8x2x512x64 .f32) (Z : FVec Ideal S8x512x64 .f32) (b : Fin 8) (j : Fin 512) (x : Fin 512) (h : Fin 2) (d : Fin 64)
    (hx : x.val / 256 = h.val) (hd : x.val % 64 = d.val) (hs : x.val / 64 % 4 = 0 ∨ x.val / 64 % 4 = 3) :
    lanesCtx (headCtx0 k) Z (headCtx1 k) (ix3 b j x) = k (ix4 b h j d) := by
  have e : (⟨x.val % 64, by omega⟩ : Fin 64) = d := Fin.ext hd
  rw [lanesCtx_at, if_pos hs, e, headCtx0_at, headCtx1_at]
  split_ifs with hl
  · rw [show h = 0 from Fin.ext (by rw [← hx]; show x.val / 256 = 0; omega)]
  · rw [show h = 1 from Fin.ext (by rw [← hx]; show x.val / 256 = 1; omega)]

/-- Cached keys (or values): a lane of a unit beside its key head. -/
theorem ctx_fill (k : FVec Ideal S8x2x512x64 .f32) (Z : FVec Ideal S8x512x64 .f32) (b : Fin 8) (j : Fin 512) (x : Fin 512) (d : Fin 64)
    (hd : x.val % 64 = d.val) (hs : ¬(x.val / 64 % 4 = 0 ∨ x.val / 64 % 4 = 3)) :
    lanesCtx (headCtx0 k) Z (headCtx1 k) (ix3 b j x) = Z (ix3 b j d) := by
  have e : (⟨x.val % 64, by omega⟩ : Fin 64) = d := Fin.ext hd
  rw [lanesCtx_at, if_neg hs, e]

theorem joined_own (ctx : FVec Ideal S8x2x512x64 .f32) (own : FVec Ideal S8x2048x2x64 .f32) (b : Fin 8) (j : Fin 2048) (h : Fin 2) (d : Fin 64) :
    joined ctx own (ix4 b ⟨512 + j.val, by omega⟩ h d) = own (ix4 b j h d) := by
  rw [joined_at, dif_neg (by dsimp only; omega)]
  exact congrArg (fun i : Fin 2048 => own (ix4 b i h d)) (Fin.ext (by dsimp only; omega))

theorem joined_ctx (ctx : FVec Ideal S8x2x512x64 .f32) (own : FVec Ideal S8x2048x2x64 .f32) (b : Fin 8) (j : Fin 512) (h : Fin 2) (d : Fin 64) :
    joined ctx own (ix4 b ⟨j.val, by omega⟩ h d) = ctx (ix4 b h j d) := by
  rw [joined_at, dif_pos (by dsimp only; omega)]

/-- Real keys stay real when the cached and the own ones are joined. -/
theorem joined_real (ctx : FVec Ideal S8x2x512x64 .f32) (own : FVec Ideal S8x2048x2x64 .f32) (hc : ∀ i, ∃ r : ℝ, ctx i = (r : EReal))
    (ho : ∀ i, ∃ r : ℝ, own i = (r : EReal)) (b : Fin 8) (j : Fin 2560) (h : Fin 2) (d : Fin 64) : ∃ r : ℝ, joined ctx own (ix4 b j h d) = (r : EReal) := by
  rw [joined_at]
  split_ifs
  · exact hc _
  · exact ho _

/-! ## One element of a pair's tile -/

/-- One element of the tile of pair `p`, from the lanes of its two units, is the reference's. -/
theorem pairAt_eq (qa : FVec Ideal S8x2048x8x64 .f32) (ka va : FVec Ideal S8x2048x2x64 .f32) (ca wa : FVec Ideal S8x2x512x64 .f32)
    (fq : ∀ i, ∃ r : ℝ, qa i = (r : EReal)) (fk : ∀ i, ∃ r : ℝ, ka i = (r : EReal)) (fc : ∀ i, ∃ r : ℝ, ca i = (r : EReal))
    (q : Fin 128 → EReal) (K0 K1 V0 V1 : Vec Ideal S1x2048x128 .bf16) (C0 C1 W0 W1 : Vec Ideal S1x512x128 .bf16) (b : Fin 8) (r : Fin 2048)
    (h : Fin 2) (p : Fin 4) (hp : p.val / 2 = h.val)
    (eq : ∀ (k : Fin 128), q k = qa (ix4 b r ⟨(128 * p.val + k.val) / 64, by omega⟩ ⟨(128 * p.val + k.val) % 64, by omega⟩) * scale)
    (eK0 : ∀ j (k : Fin 128), K0 (ix3 0 j k) = lanesOwn (headOwn0 ka) zerosOwn (headOwn1 ka) (ix3 b j ⟨256 * h.val + k.val, by omega⟩))
    (eK1 : ∀ j (k : Fin 128), K1 (ix3 0 j k) = lanesOwn (headOwn0 ka) zerosOwn (headOwn1 ka) (ix3 b j ⟨256 * h.val + 128 + k.val, by omega⟩))
    (eV0 : ∀ j (k : Fin 128), V0 (ix3 0 j k) = lanesOwn (headOwn0 va) onesOwn (headOwn1 va) (ix3 b j ⟨256 * h.val + k.val, by omega⟩))
    (eV1 : ∀ j (k : Fin 128), V1 (ix3 0 j k) = lanesOwn (headOwn0 va) onesOwn (headOwn1 va) (ix3 b j ⟨256 * h.val + 128 + k.val, by omega⟩))
    (eC0 : ∀ j (k : Fin 128), C0 (ix3 0 j k) = lanesCtx (headCtx0 ca) zerosCtx (headCtx1 ca) (ix3 b j ⟨256 * h.val + k.val, by omega⟩))
    (eC1 : ∀ j (k : Fin 128), C1 (ix3 0 j k) = lanesCtx (headCtx0 ca) zerosCtx (headCtx1 ca) (ix3 b j ⟨256 * h.val + 128 + k.val, by omega⟩))
    (eW0 : ∀ j (k : Fin 128), W0 (ix3 0 j k) = lanesCtx (headCtx0 wa) onesCtx (headCtx1 wa) (ix3 b j ⟨256 * h.val + k.val, by omega⟩))
    (eW1 : ∀ j (k : Fin 128), W1 (ix3 0 j k) = lanesCtx (headCtx0 wa) onesCtx (headCtx1 wa) (ix3 b j ⟨256 * h.val + 128 + k.val, by omega⟩))
    (l : Fin 128) (x : Fin 512) (hx : x.val = 128 * p.val + l.val) :
    pairAt q K0 K1 V0 V1 C0 C1 W0 W1 l = fromScores (joined wa va) (scores qa (joined ca ka)) (ix3 b r x) := by
  choose Q hQ using fq
  choose R hR using fun (j : Fin 2560) (d : Fin 64) => joined_real ca ka fc fk b j h d
  have e1 : (⟨x.val / 256, by omega⟩ : Fin 2) = h := Fin.ext (by dsimp only; omega)
  have hsc : ∀ j, ((∑ d : Fin 64, R j d * (Q (ix4 b r ⟨x.val / 64, by omega⟩ d) * (1 / 8)) : ℝ) : EReal) = score qa (joined ca ka) b r x j := fun j => by
    rw [score, coe_sum_real]
    refine Finset.sum_congr rfl fun d _ => ?_
    rw [e1, hR, hQ, EReal.coe_mul, EReal.coe_mul]
  rw [fromScores_at, ← funext hsc, e1]
  have hq : ∀ (k : Fin 128) (d : Fin 64), (128 * p.val + k.val) / 64 = x.val / 64 → k.val % 64 = d.val →
      q k = (Q (ix4 b r ⟨x.val / 64, by omega⟩ d) : EReal) * (((1 / 8) * (Real.log 2)⁻¹ : ℝ) : EReal) := fun k d h1 h2 => by
    rw [eq, ← hQ, show (⟨(128 * p.val + k.val) / 64, by omega⟩ : Fin 8) = ⟨x.val / 64, by omega⟩ from Fin.ext h1,
      show (⟨(128 * p.val + k.val) % 64, by omega⟩ : Fin 64) = d from Fin.ext (by dsimp only; omega)]
  by_cases hl : l.val < 64
  · rw [pairAt, if_pos hl]
    have e2 : (⟨x.val % 64, by omega⟩ : Fin 64) = ⟨l.val, hl⟩ := Fin.ext (by dsimp only; omega)
    rw [e2]
    exact low_eq q (fun j k => K0 (ix3 0 j k)) (fun j k => V0 (ix3 0 j k)) (fun j k => C0 (ix3 0 j k)) (fun j k => W0 (ix3 0 j k))
      (fun d => Q (ix4 b r ⟨x.val / 64, by omega⟩ d)) R (fun j d => joined wa va (ix4 b j h d))
      (fun k => hq _ k (by dsimp only; omega) (by dsimp only; omega))
      (fun j d => (eK0 j _).trans ((own_lane ka _ b j _ h d (by dsimp only; omega) (by dsimp only; omega) (by dsimp only; omega)).trans ((joined_own ca ka b j h d).symm.trans (hR _ d))))
      (fun j d => (eK0 j _).trans ((own_fill ka _ b j _ d (by dsimp only; omega) (by dsimp only; omega)).trans (zerosOwn_at _)))
      (fun j d => (eC0 j _).trans ((ctx_lane ca _ b j _ h d (by dsimp only; omega) (by dsimp only; omega) (by dsimp only; omega)).trans ((joined_ctx ca ka b j h d).symm.trans (hR _ d))))
      (fun j d => (eC0 j _).trans ((ctx_fill ca _ b j _ d (by dsimp only; omega) (by dsimp only; omega)).trans (zerosCtx_at _)))
      (fun j d => (eV0 j _).trans ((own_lane va _ b j _ h d (by dsimp only; omega) (by dsimp only; omega) (by dsimp only; omega)).trans (joined_own wa va b j h d).symm))
      (fun j => (eV0 j _).trans ((own_fill va _ b j _ 0 (by show (256 * h.val + 64) % 64 = 0; omega) (by show ¬((256 * h.val + 64) / 64 % 4 = 0 ∨ (256 * h.val + 64) / 64 % 4 = 3); omega)).trans (onesOwn_at b j)))
      (fun j d => (eW0 j _).trans ((ctx_lane wa _ b j _ h d (by dsimp only; omega) (by dsimp only; omega) (by dsimp only; omega)).trans (joined_ctx wa va b j h d).symm))
      (fun j => (eW0 j _).trans ((ctx_fill wa _ b j _ 0 (by show (256 * h.val + 64) % 64 = 0; omega) (by show ¬((256 * h.val + 64) / 64 % 4 = 0 ∨ (256 * h.val + 64) / 64 % 4 = 3); omega)).trans (onesCtx_at b j)))
      ⟨l.val, hl⟩
  · rw [pairAt, if_neg hl]
    have e2 : (⟨x.val % 64, by omega⟩ : Fin 64) = ⟨l.val - 64, by omega⟩ := Fin.ext (by dsimp only; omega)
    have e3 : l = ⟨64 + (l.val - 64), by omega⟩ := Fin.ext (by dsimp only; omega)
    rw [e2]
    refine Eq.trans ?_ (high_eq q (fun j k => K1 (ix3 0 j k)) (fun j k => V1 (ix3 0 j k)) (fun j k => C1 (ix3 0 j k)) (fun j k => W1 (ix3 0 j k))
      (fun d => Q (ix4 b r ⟨x.val / 64, by omega⟩ d)) R (fun j d => joined wa va (ix4 b j h d))
      (fun k => hq _ k (by dsimp only; omega) (by dsimp only; omega))
      (fun j d => (eK1 j _).trans ((own_lane ka _ b j _ h d (by dsimp only; omega) (by dsimp only; omega) (by dsimp only; omega)).trans ((joined_own ca ka b j h d).symm.trans (hR _ d))))
      (fun j d => (eK1 j _).trans ((own_fill ka _ b j _ d (by dsimp only; omega) (by dsimp only; omega)).trans (zerosOwn_at _)))
      (fun j d => (eC1 j _).trans ((ctx_lane ca _ b j _ h d (by dsimp only; omega) (by dsimp only; omega) (by dsimp only; omega)).trans ((joined_ctx ca ka b j h d).symm.trans (hR _ d))))
      (fun j d => (eC1 j _).trans ((ctx_fill ca _ b j _ d (by dsimp only; omega) (by dsimp only; omega)).trans (zerosCtx_at _)))
      (fun j d => (eV1 j _).trans ((own_lane va _ b j _ h d (by dsimp only; omega) (by dsimp only; omega) (by dsimp only; omega)).trans (joined_own wa va b j h d).symm))
      (fun j => (eV1 j _).trans ((own_fill va _ b j _ 0 (by show (256 * h.val + 128 + 0) % 64 = 0; omega) (by show ¬((256 * h.val + 128 + 0) / 64 % 4 = 0 ∨ (256 * h.val + 128 + 0) / 64 % 4 = 3); omega)).trans (onesOwn_at b j)))
      (fun j d => (eW1 j _).trans ((ctx_lane wa _ b j _ h d (by dsimp only; omega) (by dsimp only; omega) (by dsimp only; omega)).trans (joined_ctx wa va b j h d).symm))
      (fun j => (eW1 j _).trans ((ctx_fill wa _ b j _ 0 (by show (256 * h.val + 128 + 0) % 64 = 0; omega) (by show ¬((256 * h.val + 128 + 0) / 64 % 4 = 0 ∨ (256 * h.val + 128 + 0) / 64 % 4 = 3); omega)).trans (onesCtx_at b j)))
      ⟨l.val - 64, by omega⟩)
    rw [← e3]

end Cert.KernelIdeal.Attn

end

end
-- ==== Proof.AttnFinal.lean ====
module

public import proofs.«01_k».proof.Proof.AttnRow
public import Idealize.ShloMosaic.Lib.Claim
public import Idealize.ShloMosaic.Lib.Pipeline.ValueKit

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pointwise
open Cert.ReferenceIdeal.Attn (joined scores fromScores)

/-! ## The tiles of 128 lanes that the body reads -/

theorem ld_q0 (U : Vec Ideal S1x256x512 .f32) (j : Fin 256) (k : Fin 128) (y : Fin 512) (h : y.val = 0 + k.val) :
    (View.ld U r0_0 : Vec Ideal S1x256x128 .f32) (ix3 0 j k) = U (ix3 0 j y) := by
  rw [show y = ⟨k.val, by omega⟩ from Fin.ext (by dsimp only; omega)]
  pointwise

theorem ld_q1 (U : Vec Ideal S1x256x512 .f32) (j : Fin 256) (k : Fin 128) (y : Fin 512) (h : y.val = 128 + k.val) :
    (View.ld U r0_1 : Vec Ideal S1x256x128 .f32) (ix3 0 j k) = U (ix3 0 j y) := by
  rw [show y = ⟨128 + k.val, by omega⟩ from Fin.ext (by dsimp only; omega)]
  pointwise

theorem ld_q2 (U : Vec Ideal S1x256x512 .f32) (j : Fin 256) (k : Fin 128) (y : Fin 512) (h : y.val = 256 + k.val) :
    (View.ld U r0_6 : Vec Ideal S1x256x128 .f32) (ix3 0 j k) = U (ix3 0 j y) := by
  rw [show y = ⟨256 + k.val, by omega⟩ from Fin.ext (by dsimp only; omega)]
  pointwise

theorem ld_q3 (U : Vec Ideal S1x256x512 .f32) (j : Fin 256) (k : Fin 128) (y : Fin 512) (h : y.val = 384 + k.val) :
    (View.ld U r0_7 : Vec Ideal S1x256x128 .f32) (ix3 0 j k) = U (ix3 0 j y) := by
  rw [show y = ⟨384 + k.val, by omega⟩ from Fin.ext (by dsimp only; omega)]
  pointwise

theorem ld_own0 (U : Vec Ideal S1x2048x512 .bf16) (j : Fin 2048) (k : Fin 128) (y : Fin 512) (h : y.val = 0 + k.val) :
    (View.ld U r0_2 : Vec Ideal S1x2048x128 .bf16) (ix3 0 j k) = U (ix3 0 j y) := by
  rw [show y = ⟨k.val, by omega⟩ from Fin.ext (by dsimp only; omega)]
  pointwise

theorem ld_own1 (U : Vec Ideal S1x2048x512 .bf16) (j : Fin 2048) (k : Fin 128) (y : Fin 512) (h : y.val = 128 + k.val) :
    (View.ld U r0_4 : Vec Ideal S1x2048x128 .bf16) (ix3 0 j k) = U (ix3 0 j y) := by
  rw [show y = ⟨128 + k.val, by omega⟩ from Fin.ext (by dsimp only; omega)]
  pointwise

theorem ld_own2 (U : Vec Ideal S1x2048x512 .bf16) (j : Fin 2048) (k : Fin 128) (y : Fin 512) (h : y.val = 256 + k.val) :
    (View.ld U r0_8 : Vec Ideal S1x2048x128 .bf16) (ix3 0 j k) = U (ix3 0 j y) := by
  rw [show y = ⟨256 + k.val, by omega⟩ from Fin.ext (by dsimp only; omega)]
  pointwise

theorem ld_own3 (U : Vec Ideal S1x2048x512 .bf16) (j : Fin 2048) (k : Fin 128) (y : Fin 512) (h : y.val = 384 + k.val) :
    (View.ld U r0_10 : Vec Ideal S1x2048x128 .bf16) (ix3 0 j k) = U (ix3 0 j y) := by
  rw [show y = ⟨384 + k.val, by omega⟩ from Fin.ext (by dsimp only; omega)]
  pointwise

theorem ld_ctx0 (U : Vec Ideal S1x512x512 .bf16) (j : Fin 512) (k : Fin 128) (y : Fin 512) (h : y.val = 0 + k.val) :
    (View.ld U r0_3 : Vec Ideal S1x512x128 .bf16) (ix3 0 j k) = U (ix3 0 j y) := by
  rw [show y = ⟨k.val, by omega⟩ from Fin.ext (by dsimp only; omega)]
  pointwise

theorem ld_ctx1 (U : Vec Ideal S1x512x512 .bf16) (j : Fin 512) (k : Fin 128) (y : Fin 512) (h : y.val = 128 + k.val) :
    (View.ld U r0_5 : Vec Ideal S1x512x128 .bf16) (ix3 0 j k) = U (ix3 0 j y) := by
  rw [show y = ⟨128 + k.val, by omega⟩ from Fin.ext (by dsimp only; omega)]
  pointwise

theorem ld_ctx2 (U : Vec Ideal S1x512x512 .bf16) (j : Fin 512) (k : Fin 128) (y : Fin 512) (h : y.val = 256 + k.val) :
    (View.ld U r0_9 : Vec Ideal S1x512x128 .bf16) (ix3 0 j k) = U (ix3 0 j y) := by
  rw [show y = ⟨256 + k.val, by omega⟩ from Fin.ext (by dsimp only; omega)]
  pointwise

theorem ld_ctx3 (U : Vec Ideal S1x512x512 .bf16) (j : Fin 512) (k : Fin 128) (y : Fin 512) (h : y.val = 384 + k.val) :
    (View.ld U r0_11 : Vec Ideal S1x512x128 .bf16) (ix3 0 j k) = U (ix3 0 j y) := by
  rw [show y = ⟨384 + k.val, by omega⟩ from Fin.ext (by dsimp only; omega)]
  pointwise

/-! ## The blocks -/

variable (m : (ℓ : Loc nD τ sig) → Buf (Elt Ideal) ℓ)

theorem idx : ∀ t : Fin cfg0.N, win0_0.index t = ![t.val / 8, t.val % 8, 0] ∧ win0_1.index t = ![t.val / 8, 0, 0]
    ∧ win0_2.index t = ![t.val / 8, 0, 0] ∧ win0_3.index t = ![t.val / 8, 0, 0] ∧ win0_4.index t = ![t.val / 8, 0, 0]
    ∧ win0_5.index t = ![t.val / 8, t.val % 8, 0] :=
  (by decide +kernel : ∀ t : Fin grid0.N, _)

theorem blk_q (c : Dev nD) (t : Fin cfg0.N) (ht : t.val < 64) (r : Fin 256) (y : Fin 512) :
    (iblk m c 0 t : Vec Ideal S1x256x512 .f32) (ix3 0 r y)
      = m ((c : Thread nD τ).loc main_arg0) (ix4 ⟨t.val / 8, by omega⟩ ⟨t.val % 8 * 256 + r.val, by omega⟩ ⟨y.val / 64, by omega⟩ ⟨y.val % 64, by omega⟩) := by
  refine Eq.trans ?_ (q_at m c _ _ y)
  blk_point [iblk, idx t]

theorem blk_k (c : Dev nD) (t : Fin cfg0.N) (ht : t.val < 64) (j : Fin 2048) (y : Fin 512) :
    (iblk m c 1 t : Vec Ideal S1x2048x512 .bf16) (ix3 0 j y)
      = lanesOwn (headOwn0 (m ((c : Thread nD τ).loc main_arg1))) zerosOwn (headOwn1 (m ((c : Thread nD τ).loc main_arg1))) (ix3 ⟨t.val / 8, by omega⟩ j y) := by
  refine Eq.trans ?_ (congrFun (kk_eq m c) _)
  blk_point [iblk, idx t]

theorem blk_v (c : Dev nD) (t : Fin cfg0.N) (ht : t.val < 64) (j : Fin 2048) (y : Fin 512) :
    (iblk m c 2 t : Vec Ideal S1x2048x512 .bf16) (ix3 0 j y)
      = lanesOwn (headOwn0 (m ((c : Thread nD τ).loc main_arg2))) onesOwn (headOwn1 (m ((c : Thread nD τ).loc main_arg2))) (ix3 ⟨t.val / 8, by omega⟩ j y) := by
  refine Eq.trans ?_ (congrFun (vv_eq m c) _)
  blk_point [iblk, idx t]

theorem blk_kc (c : Dev nD) (t : Fin cfg0.N) (ht : t.val < 64) (j : Fin 512) (y : Fin 512) :
    (iblk m c 3 t : Vec Ideal S1x512x512 .bf16) (ix3 0 j y)
      = lanesCtx (headCtx0 (m ((c : Thread nD τ).loc main_arg3))) zerosCtx (headCtx1 (m ((c : Thread nD τ).loc main_arg3))) (ix3 ⟨t.val / 8, by omega⟩ j y) := by
  refine Eq.trans ?_ (congrFun (kc_eq m c) _)
  blk_point [iblk, idx t]

theorem blk_vc (c : Dev nD) (t : Fin cfg0.N) (ht : t.val < 64) (j : Fin 512) (y : Fin 512) :
    (iblk m c 4 t : Vec Ideal S1x512x512 .bf16) (ix3 0 j y)
      = lanesCtx (headCtx0 (m ((c : Thread nD τ).loc main_arg4))) onesCtx (headCtx1 (m ((c : Thread nD τ).loc main_arg4))) (ix3 ⟨t.val / 8, by omega⟩ j y) := by
  refine Eq.trans ?_ (congrFun (vc_eq m c) _)
  blk_point [iblk, idx t]

/-! ## The result -/

/-- The reference's result, of the kernel's arguments. -/
def REF (c : Dev nD) : FVec Ideal S8x2048x512 .bf16 :=
  fromScores (joined (m ((c : Thread nD τ).loc main_arg4)) (m ((c : Thread nD τ).loc main_arg2)))
    (scores (m ((c : Thread nD τ).loc main_arg0)) (joined (m ((c : Thread nD τ).loc main_arg3)) (m ((c : Thread nD τ).loc main_arg1))))

/-- The queries and the keys are real numbers. -/
def Real3 (c : Dev nD) : Prop :=
  (∀ i, ∃ r : ℝ, m ((c : Thread nD τ).loc main_arg0) i = (r : EReal)) ∧ (∀ i, ∃ r : ℝ, m ((c : Thread nD τ).loc main_arg1) i = (r : EReal))
    ∧ ∀ i, ∃ r : ℝ, m ((c : Thread nD τ).loc main_arg3) i = (r : EReal)

/-- One element of a tile that the body stores, from the lanes it reads. -/
theorem tile_eq (c : Dev nD) (t : Fin cfg0.N) (ht : t.val < 64) (hf : Real3 m c) (h : Fin 2) (p : Fin 4) (hp : p.val / 2 = h.val)
    (q : Vec Ideal S1x256x128 .f32) (K0 K1 V0 V1 : Vec Ideal S1x2048x128 .bf16) (C0 C1 W0 W1 : Vec Ideal S1x512x128 .bf16) (r : Fin 256)
    (eq : ∀ (k : Fin 128) (y : Fin 512), y.val = 128 * p.val + k.val → q (ix3 0 r k) = (iblk m c 0 t : Vec Ideal S1x256x512 .f32) (ix3 0 r y))
    (eK0 : ∀ j (k : Fin 128) (y : Fin 512), y.val = 256 * h.val + k.val → K0 (ix3 0 j k) = (iblk m c 1 t : Vec Ideal S1x2048x512 .bf16) (ix3 0 j y))
    (eK1 : ∀ j (k : Fin 128) (y : Fin 512), y.val = 256 * h.val + 128 + k.val → K1 (ix3 0 j k) = (iblk m c 1 t : Vec Ideal S1x2048x512 .bf16) (ix3 0 j y))
    (eV0 : ∀ j (k : Fin 128) (y : Fin 512), y.val = 256 * h.val + k.val → V0 (ix3 0 j k) = (iblk m c 2 t : Vec Ideal S1x2048x512 .bf16) (ix3 0 j y))
    (eV1 : ∀ j (k : Fin 128) (y : Fin 512), y.val = 256 * h.val + 128 + k.val → V1 (ix3 0 j k) = (iblk m c 2 t : Vec Ideal S1x2048x512 .bf16) (ix3 0 j y))
    (eC0 : ∀ j (k : Fin 128) (y : Fin 512), y.val = 256 * h.val + k.val → C0 (ix3 0 j k) = (iblk m c 3 t : Vec Ideal S1x512x512 .bf16) (ix3 0 j y))
    (eC1 : ∀ j (k : Fin 128) (y : Fin 512), y.val = 256 * h.val + 128 + k.val → C1 (ix3 0 j k) = (iblk m c 3 t : Vec Ideal S1x512x512 .bf16) (ix3 0 j y))
    (eW0 : ∀ j (k : Fin 128) (y : Fin 512), y.val = 256 * h.val + k.val → W0 (ix3 0 j k) = (iblk m c 4 t : Vec Ideal S1x512x512 .bf16) (ix3 0 j y))
    (eW1 : ∀ j (k : Fin 128) (y : Fin 512), y.val = 256 * h.val + 128 + k.val → W1 (ix3 0 j k) = (iblk m c 4 t : Vec Ideal S1x512x512 .bf16) (ix3 0 j y))
    (l : Fin 128) (x : Fin 512) (hx : x.val = 128 * p.val + l.val) :
    pairAt (fun k => q (ix3 0 r k) * scale) K0 K1 V0 V1 C0 C1 W0 W1 l
      = REF m c (ix3 ⟨t.val / 8, by omega⟩ ⟨t.val % 8 * 256 + r.val, by omega⟩ x) :=
  pairAt_eq _ _ _ _ _ hf.1 hf.2.1 hf.2.2 (fun k => q (ix3 0 r k) * scale) K0 K1 V0 V1 C0 C1 W0 W1 ⟨t.val / 8, by omega⟩ ⟨t.val % 8 * 256 + r.val, by omega⟩ h p hp
    (fun k => congrArg (fun a : EReal => a * scale) ((eq k ⟨128 * p.val + k.val, by omega⟩ rfl).trans (blk_q m c t ht r _)))
    (fun j k => (eK0 j k ⟨256 * h.val + k.val, by omega⟩ rfl).trans (blk_k m c t ht j _))
    (fun j k => (eK1 j k ⟨256 * h.val + 128 + k.val, by omega⟩ rfl).trans (blk_k m c t ht j _))
    (fun j k => (eV0 j k ⟨256 * h.val + k.val, by omega⟩ rfl).trans (blk_v m c t ht j _))
    (fun j k => (eV1 j k ⟨256 * h.val + 128 + k.val, by omega⟩ rfl).trans (blk_v m c t ht j _))
    (fun j k => (eC0 j k ⟨256 * h.val + k.val, by omega⟩ rfl).trans (blk_kc m c t ht j _))
    (fun j k => (eC1 j k ⟨256 * h.val + 128 + k.val, by omega⟩ rfl).trans (blk_kc m c t ht j _))
    (fun j k => (eW0 j k ⟨256 * h.val + k.val, by omega⟩ rfl).trans (blk_vc m c t ht j _))
    (fun j k => (eW1 j k ⟨256 * h.val + 128 + k.val, by omega⟩ rfl).trans (blk_vc m c t ht j _))
    l x hx

theorem ix3_of {n0 n1 n2 : ℕ} (j : (⟨3, ![n0, n1, n2]⟩ : Shape).Idx) (a : Fin n0) (b : Fin n1) (c : Fin n2) (ha : (j 0 : ℕ) = a.val) (hb : (j 1 : ℕ) = b.val)
    (hc : (j 2 : ℕ) = c.val) : j = ix3 a b c := by
  obtain rfl : j 0 = a := Fin.ext ha
  obtain rfl : j 1 = b := Fin.ext hb
  obtain rfl : j 2 = c := Fin.ext hc
  exact eq_ix3 j

theorem point (c : Dev nD) (hf : Real3 m c) (t : Fin cfg0.N) (y : S1x256x512.Idx) (j : S8x2048x512.Idx) (hj0 : (j 0 : ℕ) = t.val / 8)
    (hj1 : (j 1 : ℕ) = t.val % 8 * 256 + (y 1 : ℕ)) (hj2 : (j 2 : ℕ) = y 2) :
    out0_5 (iblk m c 0 t) (iblk m c 1 t) (iblk m c 2 t) (iblk m c 3 t) (iblk m c 4 t) y = REF m c j := by
  have ht : t.val < 64 := lt_of_lt_of_eq t.isLt N_0
  rw [out_eq]
  canon_tiles x h
  · rw [ix3_of x 0 ⟨x 1, x1_lt⟩ ⟨x 2, x2_lt⟩ (Nat.lt_one_iff.1 x0_lt) rfl rfl,
      ix3_of j ⟨t.val / 8, by omega⟩ ⟨t.val % 8 * 256 + (x 1 : ℕ), by omega⟩ ⟨384 + (x 2 : ℕ), by omega⟩ hj0 (by dsimp only; omega) (by dsimp only; omega)]
    exact (second_at _ _ _ _ _ _ _ _ _ _ ⟨x 1, x1_lt⟩ ⟨x 2, x2_lt⟩).trans (tile_eq m c t ht hf 1 3 rfl _ _ _ _ _ _ _ _ _ ⟨x 1, x1_lt⟩
      (ld_q3 _ _) (ld_own2 _) (ld_own3 _) (ld_own2 _) (ld_own3 _) (ld_ctx2 _) (ld_ctx3 _) (ld_ctx2 _) (ld_ctx3 _) ⟨x 2, x2_lt⟩ _ rfl)
  · rw [ix3_of x 0 ⟨x 1, x1_lt⟩ ⟨x 2, x2_lt⟩ (Nat.lt_one_iff.1 x0_lt) rfl rfl,
      ix3_of j ⟨t.val / 8, by omega⟩ ⟨t.val % 8 * 256 + (x 1 : ℕ), by omega⟩ ⟨256 + (x 2 : ℕ), by omega⟩ hj0 (by dsimp only; omega) (by dsimp only; omega)]
    exact (first_at _ _ _ _ _ _ _ _ _ _ ⟨x 1, x1_lt⟩ ⟨x 2, x2_lt⟩).trans (tile_eq m c t ht hf 1 2 rfl _ _ _ _ _ _ _ _ _ ⟨x 1, x1_lt⟩
      (ld_q2 _ _) (ld_own2 _) (ld_own3 _) (ld_own2 _) (ld_own3 _) (ld_ctx2 _) (ld_ctx3 _) (ld_ctx2 _) (ld_ctx3 _) ⟨x 2, x2_lt⟩ _ rfl)
  · rw [ix3_of x 0 ⟨x 1, x1_lt⟩ ⟨x 2, x2_lt⟩ (Nat.lt_one_iff.1 x0_lt) rfl rfl,
      ix3_of j ⟨t.val / 8, by omega⟩ ⟨t.val % 8 * 256 + (x 1 : ℕ), by omega⟩ ⟨128 + (x 2 : ℕ), by omega⟩ hj0 (by dsimp only; omega) (by dsimp only; omega)]
    exact (second_at _ _ _ _ _ _ _ _ _ _ ⟨x 1, x1_lt⟩ ⟨x 2, x2_lt⟩).trans (tile_eq m c t ht hf 0 1 rfl _ _ _ _ _ _ _ _ _ ⟨x 1, x1_lt⟩
      (ld_q1 _ _) (ld_own0 _) (ld_own1 _) (ld_own0 _) (ld_own1 _) (ld_ctx0 _) (ld_ctx1 _) (ld_ctx0 _) (ld_ctx1 _) ⟨x 2, x2_lt⟩ _ rfl)
  · rw [ix3_of x 0 ⟨x 1, x1_lt⟩ ⟨x 2, x2_lt⟩ (Nat.lt_one_iff.1 x0_lt) rfl rfl,
      ix3_of j ⟨t.val / 8, by omega⟩ ⟨t.val % 8 * 256 + (x 1 : ℕ), by omega⟩ ⟨(x 2 : ℕ), by omega⟩ hj0 (by dsimp only; omega) (by dsimp only; omega)]
    exact (first_at _ _ _ _ _ _ _ _ _ _ ⟨x 1, x1_lt⟩ ⟨x 2, x2_lt⟩).trans (tile_eq m c t ht hf 0 0 rfl _ _ _ _ _ _ _ _ _ ⟨x 1, x1_lt⟩
      (ld_q0 _ _) (ld_own0 _) (ld_own1 _) (ld_own0 _) (ld_own1 _) (ld_ctx0 _) (ld_ctx1 _) (ld_ctx0 _) (ld_ctx1 _) ⟨x 2, x2_lt⟩ _ (Nat.zero_add _).symm)

/-- The kernel's output array is the reference's result where the queries and keys are real. -/
theorem final (c : Dev nD) (hf : Real3 m c) : (dats m 0 c).arrAt 5 (cfgs 0).N = REF m c := by
  refine (dats m 0 c).arrAt_eq_of_covers 5 _ (by decide +kernel) fun t _ y => ?_
  blk_simp
  rw [after0_5]
  have ht : t.val < 64 := lt_of_lt_of_eq t.isLt N_0
  refine point m c hf t y _ ?_ ?_ ?_ <;> (blk_simp [idx t] <;> try omega)

end Cert.KernelIdeal.Attn

end

end
-- ==== Proof.AttnPre.lean ====
module

public import proofs.«01_k».proof.Pre_finite_scores
public import Idealize.ShloMosaic.PureOps.Ideal
public import Idealize.ShloMosaic.Lib.ReduceAll
public import Idealize.ShloMosaic.Lib.Pointwise

@[expose] public section

set_option maxRecDepth 16384

noncomputable section

namespace Cert.Attn

open Idealize.ShloMosaic

/-- The word of plus infinity. -/
theorem posInf_eq : Ideal.ofBits .f32 0x7F800000#32 = (⊤ : EReal) := by
  simp [Ideal.ofBits, Ideal.ieee]

/-- An element whose absolute value is below infinity is a real number. -/
theorem real_of_abs (x : EReal) (h : Ideal.cmp .olt (max x (-x)) (Ideal.ofBits .f32 0x7F800000#32) = 1#1) : ∃ r : ℝ, x = (r : EReal) := by
  rw [posInf_eq] at h
  induction x using EReal.rec with
  | bot => exact absurd h (by simp [Ideal.cmp])
  | top => exact absurd h (by simp [Ideal.cmp])
  | coe r => exact ⟨r, rfl⟩

/-- The precondition says that the queries and both kinds of keys are real numbers. -/
theorem real_of_pre [Cert.Pre_finite_scores.Facts] (q : FVec Ideal Cert.Pre_finite_scores.S8x2048x8x64 .f32) (k v : FVec Ideal Cert.Pre_finite_scores.S8x2048x2x64 .f32)
    (kc vc : FVec Ideal Cert.Pre_finite_scores.S8x2x512x64 .f32) (h : Cert.Pre_finite_scores.fn (F := Ideal) q k v kc vc = fun _ => 1#1) :
    (∀ i, ∃ r : ℝ, q i = (r : EReal)) ∧ (∀ i, ∃ r : ℝ, k i = (r : EReal)) ∧ ∀ i, ∃ r : ℝ, kc i = (r : EReal) := by
  have hand : ∀ a b : BitVec 1, IntOp.andi a b = 1#1 → a = 1#1 ∧ b = 1#1 := by decide
  have h0 := congrFun h (fun i => i.elim0)
  dsimp only [Cert.Pre_finite_scores.fn] at h0
  obtain ⟨h1, h3⟩ := hand _ _ h0
  obtain ⟨h1, h2⟩ := hand _ _ h1
  haveI : Subsingleton Cert.Pre_finite_scores.S_.Idx := ⟨fun a b => funext fun i => i.elim0⟩
  exact ⟨fun i => real_of_abs _ (Host.reduce_andi_all _ _ _ _ _ h1 i), fun i => real_of_abs _ (Host.reduce_andi_all _ _ _ _ _ h2 i),
    fun i => real_of_abs _ (Host.reduce_andi_all _ _ _ _ _ h3 i)⟩

end Cert.Attn

end

end
-- ==== Proof.AttnClaim.lean ====
module

public import proofs.«01_k».proof.Defs
public import proofs.«01_k».proof.Proof.AttnFinal
public import proofs.«01_k».proof.Proof.AttnPre
public import Idealize.ShloMosaic.Lib.Claim

@[expose] public section

set_option maxRecDepth 16384

noncomputable section

namespace Cert.Attn

open Idealize.ShloMosaic Idealize.ShloMosaic.TcCoe Idealize.SL.Sem

/-- The attention computes its reference on real queries and keys. -/
theorem algebraic [Cert.Pre_finite_scores.Facts] : Cert.algebraic_KernelIdeal_ReferenceIdeal_pre_finite_scores := by
  pair_intro
  · run_from Cert.KernelIdeal.Value.run_blocks m g
  · refine (θ_run _ _ _).mono (fun r h c => ⟨(h c).1.trans ?_, (h c).2⟩) (Cert.ReferenceIdeal.Value.run (F := Ideal) m' g')
    refine Eq.trans ?_ (Cert.KernelIdeal.Attn.final m c (real_of_pre _ _ _ _ _ (hpre c))).symm
    refine (Cert.ReferenceIdeal.Attn.res_eq m' c).trans ?_
    obtain ⟨h0, h1, h2, h3, h4⟩ := hagree c
    rw [h0, h1, h2, h3, h4]
    rfl

end Cert.Attn

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.PostEven
public import proofs.«01_k».proof.Proof.Gen.PostEven.Skeleton
public import proofs.«01_k».proof.Proof.Gen.PostEven.Launch
public import proofs.«01_k».proof.Proof.Gen.PostEven.Points
public import proofs.«01_k».proof.Proof.Gen.PostEven.Frame
public import proofs.«01_k».proof.Proof.Gen.PostEvenIdeal
public import proofs.«01_k».proof.Proof.Gen.PostEvenIdeal.Skeleton
public import proofs.«01_k».proof.Proof.Gen.PostEvenIdeal.Launch
public import proofs.«01_k».proof.Proof.Gen.PostEvenIdeal.Points
public import proofs.«01_k».proof.Proof.Gen.PostEvenIdeal.Frame
public import proofs.«01_k».proof.Proof.Gen.RefEvenIdeal
public import proofs.«01_k».proof.Proof.Gen.PostOdd
public import proofs.«01_k».proof.Proof.Gen.PostOdd.Skeleton
public import proofs.«01_k».proof.Proof.Gen.PostOdd.Launch
public import proofs.«01_k».proof.Proof.Gen.PostOdd.Points
public import proofs.«01_k».proof.Proof.Gen.PostOdd.Frame
public import proofs.«01_k».proof.Proof.Gen.PostOddIdeal
public import proofs.«01_k».proof.Proof.Gen.PostOddIdeal.Skeleton
public import proofs.«01_k».proof.Proof.Gen.PostOddIdeal.Launch
public import proofs.«01_k».proof.Proof.Gen.PostOddIdeal.Points
public import proofs.«01_k».proof.Proof.Gen.PostOddIdeal.Frame
public import proofs.«01_k».proof.Proof.Gen.RefOddIdeal
public import proofs.«01_k».proof.Proof.Gen.Pre_finite_scores
public import proofs.«01_k».proof.Proof.Gen.KernelIdeal.Value
public import proofs.«01_k».proof.Proof.Gen.PostEvenIdeal.Value
public import proofs.«01_k».proof.Proof.Gen.PostOddIdeal.Value
public import proofs.«01_k».proof.Proof.Gen.ReferenceIdeal.Run
public import proofs.«01_k».proof.Proof.Gen.RefEvenIdeal.Run
public import proofs.«01_k».proof.Proof.Gen.RefOddIdeal.Run
public import proofs.«01_k».proof.Proof.PostClaims
public import proofs.«01_k».proof.Proof.AttnClaim
public import Idealize.ShloMosaic.Adequacy
public import Idealize.ShloMosaic.Lib.Claim
public import Idealize.ShloMosaic.Init

@[expose] public section

noncomputable section

namespace Cert.Proof

open Idealize.ShloMosaic Idealize.SL.Sem Cert.Kernel

/-- The reference of the attention ends with its arguments unchanged. -/
theorem frame_reference : Cert.quiescent_ReferenceIdeal := by
  intro m g _
  exact (θ_run _ _ _).mono (fun r h => ⟨fun c => (h c).2, sem_eq_zero_of_no_sems (by decide) r.2⟩)
    (Cert.ReferenceIdeal.Value.run (F := Ideal) m g)

/-- The reference of the even layers' second half ends with its arguments unchanged. -/
theorem frame_even : Cert.quiescent_RefEvenIdeal := by
  intro m g _
  exact (θ_run _ _ _).mono (fun r h => ⟨fun c => (h c).2, sem_eq_zero_of_no_sems (by decide) r.2⟩)
    (Cert.RefEvenIdeal.Value.run (F := Ideal) m g)

/-- The reference of the odd layers' second half ends with its arguments unchanged. -/
theorem frame_odd : Cert.quiescent_RefOddIdeal := by
  intro m g _
  exact (θ_run _ _ _).mono (fun r h => ⟨fun c => (h c).2, sem_eq_zero_of_no_sems (by decide) r.2⟩)
    (Cert.RefOddIdeal.Value.run (F := Ideal) m g)

/-- Every claim of this certificate. -/
theorem claim : Cert.Claim := ⟨Cert.Kernel.Gen.facts, Cert.KernelIdeal.Gen.facts, Cert.ReferenceIdeal.Gen.facts, Cert.PostEven.Gen.facts, Cert.PostEvenIdeal.Gen.facts, Cert.RefEvenIdeal.Gen.facts, Cert.PostOdd.Gen.facts, Cert.PostOddIdeal.Gen.facts, Cert.RefOddIdeal.Gen.facts, Cert.Pre_finite_scores.Gen.facts,
    fun m g _ => Cert.Kernel.Gen.frame m g,
    fun m g _ => Cert.KernelIdeal.Gen.frame m g,
    fun m g _ => Cert.KernelIdeal.Gen.frame m g,
    frame_reference,
    fun m g _ => frame_reference m g trivial,
    fun m g _ => Cert.PostEven.Gen.frame m g,
    fun m g _ => Cert.PostEvenIdeal.Gen.frame m g,
    frame_even,
    fun m g _ => Cert.PostOdd.Gen.frame m g,
    fun m g _ => Cert.PostOddIdeal.Gen.frame m g,
    frame_odd,
    IdealRules.named_const.statement Cert.KernelIdeal.κ "scale" .f32 0x3E38AA3B#32 (((1 / 8) * (Real.log 2)⁻¹ : ℝ) : EReal) rfl,
    Cert.Attn.algebraic,
    trivial,
    Cert.Post.algebraic_even,
    trivial,
    Cert.Post.algebraic_odd⟩

end Cert.Proof

end
